-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)) (v3 : (c : Dev Cert.KernelIdeal.nD) → Buf (Elt Ideal) ((c.tc : Thread Cert.KernelIdeal.nD Cert.KernelIdeal.τ).loc Cert.KernelIdeal.main_v2_3)) (v4 : (c : Dev Cert.KernelIdeal.nD) → Buf (Elt Ideal) ((c.tc : Thread Cert.KernelIdeal.nD Cert.KernelIdeal.τ).loc Cert.KernelIdeal.main_v2_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_v2_3) = v3 c
          ∧ r.2.mem ((c.tc : Thread Cert.KernelIdeal.nD Cert.KernelIdeal.τ).loc Cert.KernelIdeal.main_v2_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2_0) = v0 c
          ∧ r.2.mem ((c.tc : Thread Cert.ReferenceIdeal.nD Cert.ReferenceIdeal.τ).loc Cert.ReferenceIdeal.main_v2_1) = v1 c
          ∧ r.2.mem ((c.tc : Thread Cert.ReferenceIdeal.nD Cert.ReferenceIdeal.τ).loc Cert.ReferenceIdeal.main_v2_2) = v2 c
          ∧ r.2.mem ((c.tc : Thread Cert.ReferenceIdeal.nD Cert.ReferenceIdeal.τ).loc Cert.ReferenceIdeal.main_v2_3) = v3 c
          ∧ r.2.mem ((c.tc : Thread Cert.ReferenceIdeal.nD Cert.ReferenceIdeal.τ).loc Cert.ReferenceIdeal.main_v2_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S8x2048x1024 : Shape := ⟨3, ![8, 2048, 1024]⟩
abbrev S8x2048x3072 : Shape := ⟨3, ![8, 2048, 3072]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S8x2048x3072 : S_.BroadcastsInDim S8x2048x3072 (![] : Fin 0 → Fin S8x2048x3072.rank)
  reducesTo_S8x2048x3072_S_d0_1_2 : S8x2048x3072.ReducesTo [0, 1, 2] S_

variable [Facts]

def fn {F : FTy → Type} [FloatOps F] (main_arg0 : FVec F S8x2048x1024 .bf16) (main_arg1 : FVec F S8x2048x3072 .bf16) : IVec S_ 1 :=
  let main_v0 : FVec F S8x2048x1024 .bf16 := Host.absf main_arg0
  let main_cst : FVec F S_ .bf16 := constant S_ .bf16 0x7F7F#16
  let main_v1 : FVec F S8x2048x1024 .bf16 := broadcastInDim S8x2048x1024 ![] bcast_S_S8x2048x1024 main_cst
  let main_v2 : IVec S8x2048x1024 1 := cmpf .ole main_v0 main_v1
  let main_v3 : FVec F S8x2048x1024 .bf16 := Host.absf main_arg0
  let main_cst_0 : FVec F S_ .bf16 := constant S_ .bf16 0x7F80#16
  let main_v4 : FVec F S8x2048x1024 .bf16 := broadcastInDim S8x2048x1024 ![] bcast_S_S8x2048x1024 main_cst_0
  let main_v5 : IVec S8x2048x1024 1 := cmpf .oeq main_v3 main_v4
  let main_v6 : IVec S8x2048x1024 1 := ori main_v2 main_v5
  let main_c : IVec S_ 1 := constantI S_ 1 1#1
  let main_v7 : IVec S_ 1 := (fun x v => Host.reduce IntOp.andi x v reducesTo_S8x2048x1024_S_d0_1_2 h_S_) main_v6 main_c
  let main_v8 : FVec F S8x2048x3072 .bf16 := Host.absf main_arg1
  let main_cst_1 : FVec F S_ .bf16 := constant S_ .bf16 0x7F7F#16
  let main_v9 : FVec F S8x2048x3072 .bf16 := broadcastInDim S8x2048x3072 ![] bcast_S_S8x2048x3072 main_cst_1
  let main_v10 : IVec S8x2048x3072 1 := cmpf .ole main_v8 main_v9
  let main_v11 : FVec F S8x2048x3072 .bf16 := Host.absf main_arg1
  let main_cst_2 : FVec F S_ .bf16 := constant S_ .bf16 0x7F80#16
  let main_v12 : FVec F S8x2048x3072 .bf16 := broadcastInDim S8x2048x3072 ![] bcast_S_S8x2048x3072 main_cst_2
  let main_v13 : IVec S8x2048x3072 1 := cmpf .oeq main_v11 main_v12
  let main_v14 : IVec S8x2048x3072 1 := ori main_v10 main_v13
  let main_c_3 : IVec S_ 1 := constantI S_ 1 1#1
  let main_v15 : IVec S_ 1 := (fun x v => Host.reduce IntOp.andi x v reducesTo_S8x2048x3072_S_d0_1_2 h_S_) main_v14 main_c_3
  let main_v16 : IVec S_ 1 := andi main_v7 main_v15
  main_v16
-- ==== Kernel.lean ====
abbrev S8x2048x1024 : Shape := ⟨3, ![8, 2048, 1024]⟩
abbrev S8x2048x3072 : Shape := ⟨3, ![8, 2048, 3072]⟩
abbrev S16384x1024 : Shape := ⟨2, ![16384, 1024]⟩
abbrev S16384x3072 : Shape := ⟨2, ![16384, 3072]⟩
abbrev S1024x3072 : Shape := ⟨2, ![1024, 3072]⟩
abbrev S512x1024 : Shape := ⟨2, ![512, 1024]⟩
abbrev S512x3072 : Shape := ⟨2, ![512, 3072]⟩
abbrev S16x1024 : Shape := ⟨2, ![16, 1024]⟩
abbrev S16x3072 : Shape := ⟨2, ![16, 3072]⟩
abbrev S1024x512 : Shape := ⟨2, ![1024, 512]⟩
abbrev S16x32x1024 : Shape := ⟨3, ![16, 32, 1024]⟩
abbrev S16x1x1024 : Shape := ⟨3, ![16, 1, 1024]⟩
abbrev S512x512 : Shape := ⟨2, ![512, 512]⟩
abbrev S16x32x512 : Shape := ⟨3, ![16, 32, 512]⟩
abbrev S16x512 : Shape := ⟨2, ![16, 512]⟩
abbrev S16x1x512 : Shape := ⟨3, ![16, 1, 512]⟩

abbrev nBuf : Space → Nat
  | .hbm => 9
  | .vmem => 15
  | .smem => 0
  | _ => 0

abbrev bufTy : (tb : Table) → Fin (tcTables nBuf tb) → BufTy
  | .hbm, ⟨0, _⟩ => ⟨S8x2048x1024, .bf16⟩
  | .hbm, ⟨1, _⟩ => ⟨S8x2048x3072, .bf16⟩
  | .hbm, ⟨2, _⟩ => ⟨S16384x1024, .bf16⟩
  | .hbm, ⟨3, _⟩ => ⟨S16384x3072, .bf16⟩
  | .hbm, ⟨4, _⟩ => ⟨S1024x3072, .f32⟩
  | .hbm, ⟨5, _⟩ => ⟨S16384x1024, .fp8e4m3⟩
  | .hbm, ⟨6, _⟩ => ⟨S512x1024, .f32⟩
  | .hbm, ⟨7, _⟩ => ⟨S16384x3072, .fp8e5m2⟩
  | .hbm, ⟨8, _⟩ => ⟨S512x3072, .f32⟩
  | .local _ .vmem, ⟨0, _⟩ => ⟨S512x1024, .bf16⟩
  | .local _ .vmem, ⟨1, _⟩ => ⟨S512x1024, .bf16⟩
  | .local _ .vmem, ⟨2, _⟩ => ⟨S512x3072, .bf16⟩
  | .local _ .vmem, ⟨3, _⟩ => ⟨S512x3072, .bf16⟩
  | .local _ .vmem, ⟨4, _⟩ => ⟨S1024x3072, .f32⟩
  | .local _ .vmem, ⟨5, _⟩ => ⟨S512x1024, .fp8e4m3⟩
  | .local _ .vmem, ⟨6, _⟩ => ⟨S512x1024, .fp8e4m3⟩
  | .local _ .vmem, ⟨7, _⟩ => ⟨S16x1024, .f32⟩
  | .local _ .vmem, ⟨8, _⟩ => ⟨S16x1024, .f32⟩
  | .local _ .vmem, ⟨9, _⟩ => ⟨S512x3072, .fp8e5m2⟩
  | .local _ .vmem, ⟨10, _⟩ => ⟨S512x3072, .fp8e5m2⟩
  | .local _ .vmem, ⟨11, _⟩ => ⟨S16x3072, .f32⟩
  | .local _ .vmem, ⟨12, _⟩ => ⟨S16x3072, .f32⟩
  | .local _ .vmem, ⟨13, _⟩ => ⟨S1024x512, .bf16⟩
  | .local _ .vmem, ⟨14, _⟩ => ⟨S512x3072, .bf16⟩
  | _, _ => ⟨S8x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v2_2 : Ref sig .tc := ⟨.hbm, 6, rfl⟩
abbrev main_v2_3 : Ref sig .tc := ⟨.hbm, 7, rfl⟩
abbrev main_v2_4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x3072 .fp8e5m2 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x3072 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S8x2048x1024 : Shape := ⟨3, ![8, 2048, 1024]⟩
abbrev S8x2048x3072 : Shape := ⟨3, ![8, 2048, 3072]⟩
abbrev S16384x1024 : Shape := ⟨2, ![16384, 1024]⟩
abbrev S16384x3072 : Shape := ⟨2, ![16384, 3072]⟩
abbrev S1024x3072 : Shape := ⟨2, ![1024, 3072]⟩
abbrev S512x1024 : Shape := ⟨2, ![512, 1024]⟩
abbrev S512x3072 : Shape := ⟨2, ![512, 3072]⟩
abbrev S512x32x1024 : Shape := ⟨3, ![512, 32, 1024]⟩
abbrev S512x1x1024 : Shape := ⟨3, ![512, 1, 1024]⟩
abbrev S512x32x3072 : Shape := ⟨3, ![512, 32, 3072]⟩
abbrev S512x1x3072 : Shape := ⟨3, ![512, 1, 3072]⟩

abbrev nBuf : Space → Nat
  | .hbm => 9
  | .vmem => 7
  | .smem => 0
  | _ => 0

abbrev bufTy : (tb : Table) → Fin (tcTables nBuf tb) → BufTy
  | .hbm, ⟨0, _⟩ => ⟨S8x2048x1024, .bf16⟩
  | .hbm, ⟨1, _⟩ => ⟨S8x2048x3072, .bf16⟩
  | .hbm, ⟨2, _⟩ => ⟨S16384x1024, .bf16⟩
  | .hbm, ⟨3, _⟩ => ⟨S16384x3072, .bf16⟩
  | .hbm, ⟨4, _⟩ => ⟨S1024x3072, .f32⟩
  | .hbm, ⟨5, _⟩ => ⟨S16384x1024, .fp8e4m3⟩
  | .hbm, ⟨6, _⟩ => ⟨S512x1024, .f32⟩
  | .hbm, ⟨7, _⟩ => ⟨S16384x3072, .fp8e5m2⟩
  | .hbm, ⟨8, _⟩ => ⟨S512x3072, .f32⟩
  | .local _ .vmem, ⟨0, _⟩ => ⟨S16384x1024, .bf16⟩
  | .local _ .vmem, ⟨1, _⟩ => ⟨S16384x3072, .bf16⟩
  | .local _ .vmem, ⟨2, _⟩ => ⟨S1024x3072, .f32⟩
  | .local _ .vmem, ⟨3, _⟩ => ⟨S16384x1024, .fp8e4m3⟩
  | .local _ .vmem, ⟨4, _⟩ => ⟨S512x1024, .f32⟩
  | .local _ .vmem, ⟨5, _⟩ => ⟨S16384x3072, .fp8e5m2⟩
  | .local _ .vmem, ⟨6, _⟩ => ⟨S512x3072, .f32⟩
  | _, _ => ⟨S8x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v2_2 : Ref sig .tc := ⟨.hbm, 6, rfl⟩
abbrev main_v2_3 : Ref sig .tc := ⟨.hbm, 7, rfl⟩
abbrev main_v2_4 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S16384x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16384x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16384x1024 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16384x3072 .fp8e5m2 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S512x3072 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Scale.lean ====
/-
  THE SCALE OF ONE BLOCK, AS A NUMBER. Both programs turn `y = (largest magnitude of the block) * (1 / fmax)` into a power
  of two and its reciprocal. The kernel does it on bits: it finds the exponent field `m` of `y` (bit by bit, comparing `y`
  with the float whose exponent field is the candidate), takes the field `m + 1` (127 where `m` is 0 or 255), and reads the
  field and its mirror `254 - (m + 1)` back as floats. The reference takes `2 ^ e` and `2 ^ (-e)` with
  `e = ⌊log y / log 2⌋ + 1`, and `e = 0` where `y < 2 ^ (-126)` or `y = ∞`. `scales_eq`: over the extended
  reals the two agree wherever `0 ≤ y < 2 ^ 126` or `y = ∞`.
-/
module

public import Idealize.ShloMosaic.PureOps.Ideal.Laws
public import Idealize.ShloMosaic.Lib.IdealHost
public import Mathlib.Analysis.SpecialFunctions.Pow.Real

@[expose] public section

noncomputable section

open Idealize.ShloMosaic

namespace Cert.Mx

/-! ## The float of an exponent field -/

/-- The `f32` whose exponent field is `m` and whose other bits are zero. -/
def pow2 (m : BitVec 32) : EReal := Ideal.ofBits .f32 (IntOp.shli .vector m 23#32)

/-- The exponent field of that pattern. -/
theorem field_bits (m : ℕ) (h : m < 256) : ((BitVec.ofNat 32 m <<< 23).extractLsb' 23 8).toNat = m := by
  simp [BitVec.extractLsb'_toNat, Nat.shiftLeft_eq, Nat.shiftRight_eq_div_pow]
  omega

/-- Its mantissa field. -/
theorem mant_bits (m : ℕ) (h : m < 256) : ((BitVec.ofNat 32 m <<< 23).extractLsb' 0 23).toNat = 0 := by
  simp [BitVec.extractLsb'_toNat, Nat.shiftLeft_eq]

/-- Its sign bit. -/
theorem sign_bits (m : ℕ) (h : m < 256) : ((BitVec.ofNat 32 m <<< 23).extractLsb' 31 1 == 1#1) = false := by
  rw [beq_eq_false_iff_ne]
  intro h'
  have := congrArg BitVec.toNat h'
  simp [BitVec.extractLsb'_toNat, Nat.shiftLeft_eq, Nat.shiftRight_eq_div_pow] at this
  omega

/-- What an exponent field below 256 denotes: 0, a power of two, or infinity. -/
theorem pow2_eq (m : ℕ) (h : m < 256) : pow2 (BitVec.ofNat 32 m)
    = if m = 255 then ⊤ else if m = 0 then 0 else (((2 : ℝ) ^ ((m : ℤ) - 127) : ℝ) : EReal) := by
  have hs : IntOp.shli .vector (BitVec.ofNat 32 m) 23#32 = BitVec.ofNat 32 m <<< 23 := by
    simp [IntOp.shli]
  unfold pow2 Ideal.ofBits Ideal.ieee
  rw [hs]
  simp only [field_bits m h, mant_bits m h, sign_bits m h, Nat.reduceAdd]
  norm_num
  split_ifs with h1 h2
  · rfl
  · rfl
  · rw [← EReal.coe_mul]
    congr 1
    rw [show (8388608 : ℝ) = (2 : ℝ) ^ (23 : ℤ) by norm_num, ← zpow_add₀ (by norm_num : (2 : ℝ) ≠ 0)]
    congr 1
    ring

/-- It is `2 ^ (m - 127)` for the fields of normal numbers. -/
theorem pow2_ofNat (m : ℕ) (h1 : 1 ≤ m) (h2 : m ≤ 254) :
    pow2 (BitVec.ofNat 32 m) = (((2 : ℝ) ^ ((m : ℤ) - 127) : ℝ) : EReal) := by
  rw [pow2_eq m (by omega), if_neg (by omega), if_neg (by omega)]

theorem pow2_zero : pow2 (BitVec.ofNat 32 0) = 0 := by rw [pow2_eq 0 (by omega)]; simp

theorem pow2_255 : pow2 (BitVec.ofNat 32 255) = ⊤ := by rw [pow2_eq 255 (by omega)]; simp

theorem pow2_127 : pow2 (BitVec.ofNat 32 127) = 1 := by
  rw [pow2_ofNat 127 (by omega) (by omega)]; norm_num

/-- A larger field denotes at least as large a number. -/
theorem pow2_mono {a b : ℕ} (hab : a ≤ b) (hb : b < 256) : pow2 (BitVec.ofNat 32 a) ≤ pow2 (BitVec.ofNat 32 b) := by
  rw [pow2_eq a (by omega), pow2_eq b hb]
  by_cases h255 : b = 255
  · rw [if_pos h255]; exact le_top
  by_cases h0 : a = 0
  · rw [if_neg (show ¬a = 255 by omega), if_pos h0, if_neg h255]
    split_ifs
    · exact le_refl _
    · exact EReal.coe_nonneg.mpr (by positivity)
  · rw [if_neg (show ¬a = 255 by omega), if_neg h0, if_neg h255, if_neg (show ¬b = 0 by omega)]
    exact EReal.coe_le_coe_iff.mpr (zpow_le_zpow_right₀ (by norm_num) (by omega))

/-! ## The kernel's scale -/

/-- One step of the search: set bit `b` of `m` where `y` reaches the float of the field so far. -/
def step (y : EReal) (b m : BitVec 32) : BitVec 32 :=
  Scalar.select (Ideal.cmp .oge y (pow2 (IntOp.addi m b))) (IntOp.addi m b) m

/-- The exponent field of `y`, found from the top bit down. -/
def field (y : EReal) : BitVec 32 :=
  step y 1#32 (step y 2#32 (step y 4#32 (step y 8#32 (step y 16#32 (step y 32#32 (step y 64#32 (step y 128#32 0#32)))))))

/-- The scale's exponent field: one above `y`'s, or 127 (the field of 1) where `y`'s is 0 or 255. -/
def biased (y : EReal) : BitVec 32 :=
  Scalar.select (IntOp.ori (IntOp.cmpi .eq (field y) 0#32) (IntOp.cmpi .eq (field y) 255#32)) 127#32
    (IntOp.addi (field y) 1#32)

/-- The kernel's scale and its reciprocal. -/
def kScale (y : EReal) : EReal := pow2 (biased y)
def kInv (y : EReal) : EReal := pow2 (IntOp.subi 254#32 (biased y))

/-- `m` is a lower bound of `y`'s exponent field, and `m + w` an upper one. -/
def Brackets (y : EReal) (m w : ℕ) : Prop :=
  pow2 (BitVec.ofNat 32 m) ≤ y ∧ m + w ≤ 256 ∧ (m + w = 256 ∨ y < pow2 (BitVec.ofNat 32 (m + w)))

/-- One step of the search halves the bracket. -/
theorem step_brackets {y : EReal} {m w : ℕ} (hw : 0 < w) (h : Brackets y m (2 * w)) :
    ∃ m', step y (BitVec.ofNat 32 w) (BitVec.ofNat 32 m) = BitVec.ofNat 32 m' ∧ Brackets y m' w := by
  obtain ⟨h1, h2, h3⟩ := h
  have hadd : IntOp.addi (BitVec.ofNat 32 m) (BitVec.ofNat 32 w) = BitVec.ofNat 32 (m + w) := by
    simp [IntOp.addi, BitVec.ofNat_add]
  unfold step
  rw [hadd]
  by_cases hc : pow2 (BitVec.ofNat 32 (m + w)) ≤ y
  · refine ⟨m + w, ?_, hc, by omega, ?_⟩
    · simp [Scalar.select, Ideal.cmp, hc]
    · rw [show m + w + w = m + 2 * w by omega]; exact h3
  · refine ⟨m, ?_, h1, by omega, Or.inr (not_le.mp hc)⟩
    simp [Scalar.select, Ideal.cmp, hc]

/-- The search ends at `y`'s exponent field: the largest `m` whose float is at most `y`. -/
theorem field_spec {y : EReal} (hy : 0 ≤ y) : ∃ m, field y = BitVec.ofNat 32 m ∧ Brackets y m 1 := by
  have h0 : Brackets y 0 (2 * 128) := ⟨by rw [pow2_zero]; exact hy, by omega, Or.inl rfl⟩
  obtain ⟨a, ea, ha⟩ := step_brackets (by omega) h0
  obtain ⟨b, eb, hb⟩ := step_brackets (w := 64) (by omega) ha
  obtain ⟨c, ec, hc⟩ := step_brackets (w := 32) (by omega) hb
  obtain ⟨d, ed, hd⟩ := step_brackets (w := 16) (by omega) hc
  obtain ⟨e, ee, he⟩ := step_brackets (w := 8) (by omega) hd
  obtain ⟨f, ef, hf⟩ := step_brackets (w := 4) (by omega) he
  obtain ⟨g, eg, hg⟩ := step_brackets (w := 2) (by omega) hf
  obtain ⟨k, ek, hk⟩ := step_brackets (w := 1) (by omega) hg
  refine ⟨k, ?_, hk⟩
  unfold field
  rw [← ek, ← eg, ← ef, ← ee, ← ed, ← ec, ← eb, ← ea]

/-! ## The reference's scale -/

/-- The reference's exponent. -/
def expo (y : EReal) : EReal :=
  Scalar.select
    (IntOp.ori (Ideal.cmp .olt y (Ideal.ofBits .f32 0x00800000#32)) (Ideal.cmp .oeq y (Ideal.ofBits .f32 0x7F800000#32)))
    (Ideal.ofBits .f32 0x00000000#32)
    (Ideal.liftRound Int.floor (Ideal.div (Ideal.log y) (Ideal.log (Ideal.ofBits .f32 0x40000000#32)))
      + Ideal.ofBits .f32 0x3F800000#32)

/-- The reference's scale and its reciprocal. -/
def rScale (y : EReal) : EReal := Ideal.exp2 (expo y)
def rInv (y : EReal) : EReal := Ideal.exp2 (Ideal.ofBits .f32 0x00000000#32 - expo y)

theorem ofBits_tiny : Ideal.ofBits .f32 0x00800000#32 = pow2 (BitVec.ofNat 32 1) := rfl
theorem ofBits_inf : Ideal.ofBits .f32 0x7F800000#32 = ⊤ := by simp [Ideal.ofBits, Ideal.ieee]
theorem ofBits_two : Ideal.ofBits .f32 0x40000000#32 = ((2 : ℝ) : EReal) := by
  simp [Ideal.ofBits, Ideal.ieee, -EReal.coe_mul]; norm_num

/-- The logarithm to base 2 of a number in `[2 ^ k, 2 ^ (k + 1))` rounds down to `k`. -/
theorem floor_log {r : ℝ} {k : ℤ} (h1 : (2 : ℝ) ^ k ≤ r) (h2 : r < (2 : ℝ) ^ (k + 1)) :
    Ideal.liftRound Int.floor (Ideal.div (Ideal.log (r : EReal)) (Ideal.log ((2 : ℝ) : EReal))) = ((k : ℝ) : EReal) := by
  have hr : 0 < r := lt_of_lt_of_le (by positivity) h1
  have hl : 0 < Real.log 2 := Real.log_pos (by norm_num)
  have e1 : Ideal.log (r : EReal) = (Real.log r : EReal) := by
    show (if r ≤ 0 then ⊥ else (Real.log r : EReal)) = _
    rw [if_neg (not_le.mpr hr)]
  have e2 : Ideal.log ((2 : ℝ) : EReal) = (Real.log 2 : EReal) := by
    show (if (2 : ℝ) ≤ 0 then ⊥ else (Real.log 2 : EReal)) = _
    rw [if_neg (by norm_num)]
  have e3 : Ideal.div (Real.log r : EReal) (Real.log 2 : EReal) = ((Real.log r / Real.log 2 : ℝ) : EReal) := by
    unfold Ideal.div
    rw [if_neg (by exact_mod_cast hl.ne'), div_eq_mul_inv, EReal.coe_mul, EReal.coe_inv]
  rw [e1, e2, e3]
  show ((⌊Real.log r / Real.log 2⌋ : ℝ) : EReal) = _
  have : ⌊Real.log r / Real.log 2⌋ = k := by
    rw [Int.floor_eq_iff, le_div_iff₀ hl, div_lt_iff₀ hl, ← Real.log_zpow]
    refine ⟨Real.log_le_log (by positivity) h1, ?_⟩
    have := Real.log_lt_log hr h2
    rw [Real.log_zpow] at this
    push_cast at this
    exact this
  rw [this]

/-- The reference's exponent where `y` is in the normal range. -/
theorem expo_normal {r : ℝ} {k : ℤ} (ht : pow2 (BitVec.ofNat 32 1) ≤ (r : EReal)) (h1 : (2 : ℝ) ^ k ≤ r)
    (h2 : r < (2 : ℝ) ^ (k + 1)) : expo (r : EReal) = (((k + 1 : ℤ) : ℝ) : EReal) := by
  unfold expo
  rw [ofBits_two, floor_log h1 h2, ofBits_tiny, ofBits_inf, Ideal.ofBits_one_f32]
  simp [Scalar.select, IntOp.ori, Ideal.cmp, not_lt.mpr ht]

/-- Below the normal range and at infinity it is 0. -/
theorem expo_zero {y : EReal} (h : y < pow2 (BitVec.ofNat 32 1) ∨ y = ⊤) : expo y = 0 := by
  unfold expo
  rw [ofBits_tiny, ofBits_inf, Ideal.ofBits_zero_f32]
  have o1 : ∀ b : BitVec 1, 1#1 ||| b = 1#1 := by decide
  rcases h with h | h <;> simp [Scalar.select, IntOp.ori, Ideal.cmp, h, o1]

theorem biased_of_field {y : EReal} {m : ℕ} (h : field y = BitVec.ofNat 32 m) (hm : m < 256) :
    biased y = BitVec.ofNat 32 (if m = 0 ∨ m = 255 then 127 else m + 1) := by
  unfold biased
  rw [h]
  have e : ∀ k, k < 256 → ((BitVec.ofNat 32 m == BitVec.ofNat 32 k) = decide (m = k)) := by
    intro k hk
    by_cases hmk : m = k
    · simp [hmk]
    · rw [decide_eq_false hmk, beq_eq_false_iff_ne]
      intro h'
      have := congrArg BitVec.toNat h'
      simp at this
      omega
  have e0 := e 0 (by omega)
  have e255 := e 255 (by omega)
  simp only [IntOp.cmpi, e0, e255]
  by_cases h0 : m = 0
  · simp [Scalar.select, IntOp.ori, h0]
  · by_cases h255 : m = 255
    · simp [Scalar.select, IntOp.ori, h255]
    · simp [Scalar.select, IntOp.ori, h0, h255, IntOp.addi, BitVec.ofNat_add]

theorem exp2_int (k : ℤ) : Ideal.exp2 (((k : ℤ) : ℝ) : EReal) = (((2 : ℝ) ^ k : ℝ) : EReal) := by
  rw [Ideal.exp2_coe]
  exact congrArg _ (Real.rpow_intCast 2 k)

/-- THE SCALES AGREE, and so do their reciprocals: wherever `0 ≤ y < 2 ^ 126` or `y = ∞`. -/
theorem scales_eq {y : EReal} (hy : 0 ≤ y) (hb : y < pow2 (BitVec.ofNat 32 253) ∨ y = ⊤) :
    kScale y = rScale y ∧ kInv y = rInv y := by
  obtain ⟨m, hm, h1, h2, h3⟩ := field_spec hy
  have hbi := biased_of_field hm (by omega)
  unfold kScale kInv rScale rInv
  rw [hbi, Ideal.ofBits_zero_f32]
  have one : Ideal.exp2 0 = 1 := by
    have := exp2_int 0
    simpa using this
  have mirror : ∀ k : ℕ, k ≤ 254 → IntOp.subi 254#32 (BitVec.ofNat 32 k) = BitVec.ofNat 32 (254 - k) := by
    intro k hk
    apply BitVec.eq_of_toNat_eq
    simp [IntOp.subi, BitVec.toNat_sub]
    omega
  by_cases hs : m = 0 ∨ m = 255
  · have hz : expo y = 0 := by
      refine expo_zero ?_
      rcases hs with rfl | rfl
      · rcases h3 with h3 | h3
        · omega
        · exact Or.inl h3
      · rw [pow2_255] at h1
        exact Or.inr (top_le_iff.mp h1)
    rw [if_pos hs, mirror 127 (by omega), pow2_127, hz, sub_zero, one]
    exact ⟨rfl, rfl⟩
  · have hm0 : 1 ≤ m := by omega
    have hlt : y < pow2 (BitVec.ofNat 32 253) := by
      rcases hb with hb | hb
      · exact hb
      · rcases h3 with h3 | h3
        · omega
        · rw [hb] at h3; exact absurd h3 (not_lt.mpr le_top)
    have hm2 : m ≤ 252 := by
      by_contra hc
      exact absurd (lt_of_le_of_lt ((pow2_mono (by omega) (by omega)).trans h1) hlt) (lt_irrefl _)
    have h3' : y < pow2 (BitVec.ofNat 32 (m + 1)) := by
      rcases h3 with h3 | h3
      · omega
      · exact h3
    rw [pow2_ofNat (m + 1) (by omega) (by omega)] at h3'
    have ht : pow2 (BitVec.ofNat 32 1) ≤ y := (pow2_mono hm0 (by omega)).trans h1
    rw [pow2_ofNat m hm0 (by omega)] at h1
    induction y using EReal.rec with
    | bot => exact absurd hy (by simp)
    | top => exact absurd h3' (not_lt.mpr le_top)
    | coe r =>
      have hr1 := EReal.coe_le_coe_iff.mp h1
      have hr2 := EReal.coe_lt_coe_iff.mp h3'
      have he := expo_normal ht hr1 (by rw [show (m : ℤ) - 127 + 1 = ((m + 1 : ℕ) : ℤ) - 127 by push_cast; ring]; exact hr2)
      rw [if_neg hs, mirror (m + 1) (by omega), he, pow2_ofNat (m + 1) (by omega) (by omega),
        pow2_ofNat (254 - (m + 1)) (by omega) (by omega), exp2_int]
      refine ⟨by congr 2; push_cast; ring, ?_⟩
      rw [zero_sub, ← EReal.coe_neg, ← Int.cast_neg, exp2_int]
      congr 2
      omega

end Cert.Mx
-- ==== Proof.Spec.lean ====
/-
  ONE BLOCK OF 32 VALUES, QUANTISED: as numbers, once the way the kernel computes it (`kCode`, `kHat`, over the scale read
  from an exponent field) and once the reference's way (`rCode`, `rHat`, over `2 ^ e`). `kCode_eq` and `kHat_eq`: the two
  agree on every block whose values are bounded, that is each at most the largest finite `bf16` in magnitude, or infinite.
-/
module

public import proofs.«01_k».proof.Proof.Scale

@[expose] public section

noncomputable section

open Idealize.ShloMosaic

namespace Cert.Mx

/-- A code format: the `f32` bits of the reciprocal of its largest value, of its smallest and of its largest value. -/
structure Fmt where
  recip : BitVec 32
  lo : BitVec 32
  hi : BitVec 32

/-- `e4m3`: 1/448, -448 and 448. -/
def e4m3 : Fmt := ⟨0x3B124925#32, 0xC3E00000#32, 0x43E00000#32⟩
/-- `e5m2`: 1/57344, -57344 and 57344. -/
def e5m2 : Fmt := ⟨0x37924925#32, 0xC7600000#32, 0x47600000#32⟩

/-- The magnitude of one value. -/
def mag (v : EReal) : EReal := max v (-v)

/-- The largest magnitude of a block. -/
def amax (blk : Fin 32 → EReal) : EReal :=
  Finset.univ.fold max (Ideal.ofBits .bf16 0xFF80#16) fun k => mag (blk k)

/-- The number whose exponent decides the block's scale. -/
def yOf (f : Fmt) (blk : Fin 32 → EReal) : EReal := amax blk * Ideal.ofBits .f32 f.recip

/-- `v * inv` brought into the format's range. -/
def clip (f : Fmt) (v inv : EReal) : EReal := min (Ideal.ofBits .f32 f.hi) (max (Ideal.ofBits .f32 f.lo) (v * inv))

/-- The kernel's code of `v` in the block `blk`, and the value it stands for. -/
def kCode (f : Fmt) (blk : Fin 32 → EReal) (v : EReal) : EReal := clip f v (kInv (yOf f blk))
def kHat (f : Fmt) (blk : Fin 32 → EReal) (v : EReal) : EReal := kCode f blk v * kScale (yOf f blk)
/-- The reference's. -/
def rCode (f : Fmt) (blk : Fin 32 → EReal) (v : EReal) : EReal := clip f v (rInv (yOf f blk))
def rHat (f : Fmt) (blk : Fin 32 → EReal) (v : EReal) : EReal := rCode f blk v * rScale (yOf f blk)

/-! ## Bounded blocks -/

/-- At most the largest finite `bf16` in magnitude, or infinite. -/
def Bounded (v : EReal) : Prop := mag v ≤ Ideal.ofBits .bf16 0x7F7F#16 ∨ mag v = ⊤

theorem mag_nonneg (v : EReal) : 0 ≤ mag v := by
  rcases le_total 0 v with h | h
  · exact h.trans (le_max_left _ _)
  · exact (EReal.neg_nonneg.mpr h).trans (le_max_right _ _)

theorem ofBits_ninf : Ideal.ofBits .bf16 0xFF80#16 = ⊥ := by simp [Ideal.ofBits, Ideal.ieee]

theorem amax_nonneg (blk : Fin 32 → EReal) : 0 ≤ amax blk :=
  (mag_nonneg (blk 0)).trans (Finset.le_fold_max _ |>.mpr (Or.inr ⟨0, Finset.mem_univ _, le_refl _⟩))

/-- The largest magnitude of a bounded block is bounded. -/
theorem amax_bounded {blk : Fin 32 → EReal} (h : ∀ k, Bounded (blk k)) :
    amax blk ≤ Ideal.ofBits .bf16 0x7F7F#16 ∨ amax blk = ⊤ := by
  by_cases hc : ∃ k, mag (blk k) = ⊤
  · obtain ⟨k, hk⟩ := hc
    exact Or.inr (top_le_iff.mp ((Finset.le_fold_max _).mpr (Or.inr ⟨k, Finset.mem_univ _, hk.ge⟩)))
  · refine Or.inl (Finset.fold_max_le _ |>.mpr ⟨by rw [ofBits_ninf]; exact bot_le, fun k _ => ?_⟩)
    exact (h k).resolve_right fun hk => hc ⟨k, hk⟩

/-- The largest finite `bf16` and the two reciprocals, as numbers. -/
theorem ofBits_max : Ideal.ofBits .bf16 0x7F7F#16 = (((255 : ℝ) * 2 ^ 120 : ℝ) : EReal) := by
  simp [Ideal.ofBits, Ideal.ieee, -EReal.coe_mul]
theorem recip_e4m3 : Ideal.ofBits .f32 e4m3.recip = (((9586981 : ℝ) / 2 ^ 32 : ℝ) : EReal) := by
  simp [e4m3, Ideal.ofBits, Ideal.ieee, -EReal.coe_mul]; norm_num
theorem recip_e5m2 : Ideal.ofBits .f32 e5m2.recip = (((9586981 : ℝ) / 2 ^ 39 : ℝ) : EReal) := by
  simp [e5m2, Ideal.ofBits, Ideal.ieee, -EReal.coe_mul]; norm_num

/-- A positive reciprocal no larger than 1/256 brings a bounded magnitude below `2 ^ 126`. -/
theorem yOf_bounded {f : Fmt} {r : ℝ} (hf : Ideal.ofBits .f32 f.recip = (r : EReal)) (h0 : 0 < r) (h1 : r ≤ 1 / 256)
    {blk : Fin 32 → EReal} (h : ∀ k, Bounded (blk k)) :
    0 ≤ yOf f blk ∧ (yOf f blk < pow2 (BitVec.ofNat 32 253) ∨ yOf f blk = ⊤) := by
  have hn := amax_nonneg blk
  have hb := amax_bounded h
  unfold yOf
  rw [hf]
  generalize amax blk = a at hn hb
  induction a using EReal.rec with
  | bot => exact absurd hn (by simp)
  | top => exact ⟨by rw [EReal.top_mul_coe_of_pos h0]; exact le_top, Or.inr (EReal.top_mul_coe_of_pos h0)⟩
  | coe a =>
    have hb : a ≤ 255 * 2 ^ 120 := by
      rcases hb with hb | hb
      · rw [ofBits_max] at hb; exact EReal.coe_le_coe_iff.mp hb
      · exact absurd hb (EReal.coe_ne_top a)
    have hn : 0 ≤ a := EReal.coe_nonneg.mp hn
    rw [pow2_ofNat 253 (by omega) (by omega), ← EReal.coe_mul]
    refine ⟨EReal.coe_nonneg.mpr (by positivity), Or.inl (EReal.coe_lt_coe_iff.mpr ?_)⟩
    calc a * r ≤ (255 * 2 ^ 120) * (1 / 256) := mul_le_mul hb h1 h0.le (by positivity)
      _ < _ := by norm_num

/-- A format whose scale the two programs agree on, on every bounded block. -/
def Agrees (f : Fmt) : Prop := ∀ blk : Fin 32 → EReal, (∀ k, Bounded (blk k)) →
  kScale (yOf f blk) = rScale (yOf f blk) ∧ kInv (yOf f blk) = rInv (yOf f blk)

theorem e4m3_agrees : Agrees e4m3 := fun _ h =>
  have b := yOf_bounded recip_e4m3 (by norm_num) (by norm_num) h
  scales_eq b.1 b.2

theorem e5m2_agrees : Agrees e5m2 := fun _ h =>
  have b := yOf_bounded recip_e5m2 (by norm_num) (by norm_num) h
  scales_eq b.1 b.2

theorem kCode_eq {f : Fmt} (hf : Agrees f) {blk : Fin 32 → EReal} (h : ∀ k, Bounded (blk k)) (v : EReal) :
    kCode f blk v = rCode f blk v := by
  unfold kCode rCode
  rw [(hf blk h).2]

theorem kHat_eq {f : Fmt} (hf : Agrees f) {blk : Fin 32 → EReal} (h : ∀ k, Bounded (blk k)) (v : EReal) :
    kHat f blk v = rHat f blk v := by
  unfold kHat rHat
  rw [kCode_eq hf h, (hf blk h).1]

end Cert.Mx
-- ==== Proof.Bits.lean ====
/-
  THE KERNEL'S SEARCH FOR THE EXPONENT FIELD, as vector operations over any shape and any float semantics, and its reading
  at an index over the extended reals. Every tile of the kernel prints these operations; each tile's text is `vbiased` of
  its own `y`.
-/
module

public import proofs.«01_k».proof.Proof.Scale
public import Idealize.ShloMosaic.Lib.Pointwise

@[expose] public section

noncomputable section

open Idealize.ShloMosaic

namespace Cert.Mx

section
variable {F : FTy → Type} [FloatOps F] {s : Shape}

/-- One step of the search. -/
def vstep (y : FVec F s .f32) (b : BitVec 32) (m : IVec s 32) : IVec s 32 :=
  select (cmpf .oge y (bitcastToFloat .f32 (shli (addi m (broadcast s b)) (broadcast s 23#32))))
    (addi m (broadcast s b)) m

/-- The exponent field. -/
def vfield (y : FVec F s .f32) : IVec s 32 :=
  vstep y 1#32 (vstep y 2#32 (vstep y 4#32 (vstep y 8#32 (vstep y 16#32 (vstep y 32#32
    (vstep y 64#32 (vstep y 128#32 (broadcast s 0#32))))))))

/-- The scale's exponent field. -/
def vbiased (y : FVec F s .f32) : IVec s 32 :=
  select (ori (cmpi .eq (vfield y) (broadcast s 0#32)) (cmpi .eq (vfield y) (broadcast s 255#32))) (broadcast s 127#32)
    (addi (vfield y) (broadcast s 1#32))

end

theorem vstep_apply {s : Shape} (y : FVec Ideal s .f32) (b : BitVec 32) (m : IVec s 32) (i) :
    vstep y b m i = step (y i) b (m i) := rfl

theorem vbiased_apply {s : Shape} (y : FVec Ideal s .f32) (i) : vbiased y i = biased (y i) := by
  have h : vfield y i = field (y i) := by
    unfold vfield field
    simp only [vstep_apply]
    rfl
  show Scalar.select (IntOp.ori (IntOp.cmpi .eq (vfield y i) 0#32) (IntOp.cmpi .eq (vfield y i) 255#32)) 127#32
    (IntOp.addi (vfield y i) 1#32) = _
  rw [h]
  rfl

end Cert.Mx
-- ==== Proof.Tile.lean ====
/-
  THE KERNEL'S TILES. `xScale`, `xCode`, `xHatT` are what one grid point makes of its 512 x 1024 block of `x`; `dScale`,
  `dCode`, `dHat` what it makes of one 512 x 512 column tile of `dy`. All are the printed payloads composed. Then their
  readings at an index over the extended reals, in the words of `Spec`.
-/
module

public import proofs.«01_k».proof.Proof.Gen.KernelIdeal.Skeleton
public import proofs.«01_k».proof.Proof.Spec
public import proofs.«01_k».proof.Proof.Bits
public import Idealize.ShloMosaic.Lib.Pointwise

@[expose] public section

set_option maxRecDepth 16384

noncomputable section

open Idealize.ShloMosaic

namespace Cert.KernelIdeal.Mx

open Cert.KernelIdeal Cert.KernelIdeal.Gen Cert.Mx

section
variable {F : FTy → Type} [FloatOps F]

/-! ## The composed payloads -/

/-- The scale of the block of `x`. -/
def xScale (v : Vec F S512x1024 .bf16) : FVec F S16x1024 .f32 := k0_pay7 (k0_pay4 v) (k0_pay5 v)
/-- Its codes. -/
def xCode (v : Vec F S512x1024 .bf16) : FVec F S512x1024 .fp8e4m3 :=
  k0_pay10 (FloatOps.ofBits .f32 0x43E00000#32) (k0_pay8 (k0_pay3 v) (k0_pay4 v) (k0_pay5 v))
/-- Its decoded values, transposed. -/
def xHatT (v : Vec F S512x1024 .bf16) : FVec F S1024x512 .bf16 :=
  k0_pay11 (xScale v) (FloatOps.ofBits .f32 0x43E00000#32) (k0_pay8 (k0_pay3 v) (k0_pay4 v) (k0_pay5 v))

/-- The part of a tile of `dy`'s field search that its first tile keeps under a name. -/
def dField (v : Vec F S512x512 .bf16) : IVec S16x512 32 := k0_pay16 (k0_pay13 v) (k0_pay14 v) k0_pay15
/-- Where that field is 0 or 255. -/
def dEdge (v : Vec F S512x512 .bf16) : IVec S16x512 1 := k0_pay17 (k0_pay13 v) (k0_pay14 v) k0_pay15
/-- The scale of a tile of `dy`. -/
def dScale (v : Vec F S512x512 .bf16) : FVec F S16x512 .f32 := k0_pay19 (dField v) (dEdge v) 1#32
/-- Its codes. -/
def dCode (v : Vec F S512x512 .bf16) : FVec F S512x512 .fp8e5m2 := k0_pay21 (k0_pay12 v) (dField v) (dEdge v) 1#32
/-- Its decoded values. -/
def dHat (v : Vec F S512x512 .bf16) : FVec F S512x512 .bf16 := k0_pay22 (k0_pay12 v) (dField v) (dEdge v) 1#32

/-- The text of the field search is `vbiased`. -/
theorem xBiased_eq (v : Vec F S512x1024 .bf16) : k0_pay6 (k0_pay4 v) (k0_pay5 v) = vbiased (k0_pay4 v) := rfl
theorem dBiased_eq (v : Vec F S512x512 .bf16) : k0_pay18 (dField v) (dEdge v) 1#32 = vbiased (k0_pay13 v) := rfl

end

/-! ## Their readings -/

/-- Block `b` of column `j` of a block of `x`, and of a tile of `dy`. -/
def xBlk (v : Vec Ideal S512x1024 .bf16) (b : Fin 16) (j : Fin 1024) (k : Fin 32) : EReal :=
  v (ix2 ⟨b.val * 32 + k.val, by omega⟩ j)
def dBlk (v : Vec Ideal S512x512 .bf16) (b : Fin 16) (j : Fin 512) (k : Fin 32) : EReal :=
  v (ix2 ⟨b.val * 32 + k.val, by omega⟩ j)

theorem xY_apply (v : Vec Ideal S512x1024 .bf16) (b : Fin 16) (j : Fin 1024) :
    k0_pay4 v (ix2 b j) = yOf e4m3 (xBlk v b j) := by
  pointwise [k0_pay4, k0_pay3]
  rfl

theorem dY_apply (v : Vec Ideal S512x512 .bf16) (b : Fin 16) (j : Fin 512) :
    k0_pay13 v (ix2 b j) = yOf e5m2 (dBlk v b j) := by
  pointwise [k0_pay13, k0_pay12]
  rfl

theorem xBiased_apply (v : Vec Ideal S512x1024 .bf16) (b : Fin 16) (j : Fin 1024) :
    k0_pay6 (k0_pay4 v) (k0_pay5 v) (ix2 b j) = biased (yOf e4m3 (xBlk v b j)) := by
  rw [xBiased_eq, vbiased_apply, xY_apply]

theorem dBiased_apply (v : Vec Ideal S512x512 .bf16) (b : Fin 16) (j : Fin 512) :
    k0_pay18 (dField v) (dEdge v) 1#32 (ix2 b j) = biased (yOf e5m2 (dBlk v b j)) := by
  rw [dBiased_eq, vbiased_apply, dY_apply]

theorem xIn_apply (v : Vec Ideal S512x1024 .bf16) (b : Fin 16) (k : Fin 32) (j : Fin 1024) :
    k0_pay3 v (ix3 b k j) = v (ix2 ⟨b.val * 32 + k.val, by omega⟩ j) := by
  pointwise [k0_pay3]

theorem dIn_apply (v : Vec Ideal S512x512 .bf16) (b : Fin 16) (k : Fin 32) (j : Fin 512) :
    k0_pay12 v (ix3 b k j) = v (ix2 ⟨b.val * 32 + k.val, by omega⟩ j) := by
  pointwise [k0_pay12]

theorem xScale_apply (v : Vec Ideal S512x1024 .bf16) (b : Fin 16) (j : Fin 1024) :
    xScale v (ix2 b j) = kScale (yOf e4m3 (xBlk v b j)) := by
  unfold kScale
  rw [← xBiased_apply]
  rfl

theorem dScale_apply (v : Vec Ideal S512x512 .bf16) (b : Fin 16) (j : Fin 512) :
    dScale v (ix2 b j) = kScale (yOf e5m2 (dBlk v b j)) := by
  unfold kScale
  rw [← dBiased_apply]
  rfl

/-- The row a token's position splits into and puts together again. -/
theorem row_eq (r : Fin 512) (h : r.val / 32 * 32 + r.val % 32 < 512) : (⟨r.val / 32 * 32 + r.val % 32, h⟩ : Fin 512) = r :=
  Fin.ext (Nat.div_add_mod' r.val 32)

theorem xCode_apply (v : Vec Ideal S512x1024 .bf16) (r : Fin 512) (j : Fin 1024) :
    xCode v (ix2 r j) = kCode e4m3 (xBlk v ⟨r.val / 32, by omega⟩ j) (v (ix2 r j)) := by
  unfold xCode kCode kInv clip
  rw [← xBiased_apply]
  pointwise [k0_pay10, k0_pay9, k0_pay8]
  rw [xIn_apply, row_eq]
  rfl

theorem dCode_apply (v : Vec Ideal S512x512 .bf16) (r : Fin 512) (j : Fin 512) :
    dCode v (ix2 r j) = kCode e5m2 (dBlk v ⟨r.val / 32, by omega⟩ j) (v (ix2 r j)) := by
  unfold dCode kCode kInv clip
  rw [← dBiased_apply]
  pointwise [k0_pay21, k0_pay20]
  rw [dIn_apply, row_eq]
  rfl

theorem xHatT_apply (v : Vec Ideal S512x1024 .bf16) (j : Fin 1024) (r : Fin 512) :
    xHatT v (ix2 j r) = kHat e4m3 (xBlk v ⟨r.val / 32, by omega⟩ j) (v (ix2 r j)) := by
  unfold xHatT xScale kHat kCode kInv kScale clip
  rw [← xBiased_apply]
  pointwise [k0_pay11, k0_pay9, k0_pay8, k0_pay7]
  rw [xIn_apply, row_eq]
  rfl

theorem dHat_apply (v : Vec Ideal S512x512 .bf16) (r : Fin 512) (j : Fin 512) :
    dHat v (ix2 r j) = kHat e5m2 (dBlk v ⟨r.val / 32, by omega⟩ j) (v (ix2 r j)) := by
  unfold dHat kHat kCode kInv kScale clip
  rw [← dBiased_apply]
  pointwise [k0_pay22, k0_pay20, k0_pay19]
  rw [dIn_apply, row_eq]
  rfl

end Cert.KernelIdeal.Mx
-- ==== Proof.Cols.lean ====
/-
  SIX COLUMN TILES OF A 3072-COLUMN BLOCK. The kernel walks `dy` in six tiles of 512 columns: it loads a tile
  (`View.ld … (colRect q)`) and stores into the same columns of its output blocks, the last tile's store listed first
  (`tiles`). `canon_tiles`: after the six stores column `j` holds what tile `j / 512` stored at its column `j % 512`.
-/
module

public import Idealize.ShloMosaic.Lib.Pointwise
public import Idealize.ShloMosaic.Lib.Pipeline.ValueKit
public import Idealize.ShloMosaic.Lib.Pipeline.CanonAppend

@[expose] public section

noncomputable section

open Idealize.ShloMosaic

namespace Cert.Mx

/-- `n` rows of 512 columns, and of 3072. -/
abbrev TileS (n : ℕ) : Shape := ⟨2, ![n, 512]⟩
abbrev FullS (n : ℕ) : Shape := ⟨2, ![n, 3072]⟩

theorem colRect_inb (n : ℕ) (q : Fin 6) : ∀ a, (![0, 512 * q.val] : Fin 2 → ℕ) a + (![n, 512] : Fin 2 → ℕ) a ≤ (FullS n).size a := by
  intro a
  fin_cases a
  · simp
  · show 512 * q.val + 512 ≤ 3072
    omega

/-- The columns of tile `q`. -/
def colRect (n : ℕ) (q : Fin 6) : Rect (FullS n) := Rect.unit ![0, 512 * q.val] ![n, 512] (colRect_inb n q)

variable {Val : EltTy → Type} {e : EltTy} {n : ℕ}

/-- Tile `q` of a block. -/
def colTile (X : (FullS n).Idx → Val e) (q : Fin 6) : (TileS n).Idx → Val e := View.ld X (colRect n q)

theorem colTile_apply (X : (FullS n).Idx → Val e) (q : Fin 6) (r : Fin n) (j : Fin 512) :
    colTile X q (ix2 r j) = X (ix2 r ⟨512 * q.val + j.val, by omega⟩) := by
  refine congrArg X (funext fun a => Fin.ext ?_)
  match a with
  | ⟨0, _⟩ => show 0 + 1 * r.val = r.val; omega
  | ⟨1, _⟩ => show 512 * q.val + 1 * j.val = 512 * q.val + j.val; omega

/-- The six stores, the last first. -/
def tiles (f : Fin 6 → (TileS n).Idx → Val e) : List (View.Piece Val (FullS n) e) :=
  [⟨colRect n 5, f 5⟩, ⟨colRect n 4, f 4⟩, ⟨colRect n 3, f 3⟩, ⟨colRect n 2, f 2⟩, ⟨colRect n 1, f 1⟩, ⟨colRect n 0, f 0⟩]

theorem mem_tiles (f : Fin 6 → (TileS n).Idx → Val e) (p : View.Piece Val (FullS n) e) :
    p ∈ tiles f ↔ ∃ q : Fin 6, p = ⟨colRect n q, f q⟩ := by
  simp [tiles, Fin.exists_fin_succ]
  tauto

theorem canon_tiles [∀ e, Nonempty (Val e)] (f : Fin 6 → (TileS n).Idx → Val e) (L' : List (View.Piece Val (FullS n) e))
    (r : Fin n) (j : Fin 3072) :
    View.canon (tiles f ++ L') (ix2 r j) = f ⟨j.val / 512, by omega⟩ (ix2 r ⟨j.val % 512, by omega⟩) := by
  refine View.canon_append_of_pieces (fun i : (FullS n).Idx => f ⟨(i 1).val / 512, by have h : (i 1).val < 3072 := (i 1).isLt; omega⟩
    (ix2 (i 0) ⟨(i 1).val % 512, by omega⟩)) L' (tiles f) (fun p hp x => ?_) (ix2 r j) ?_
  · obtain ⟨q, rfl⟩ := (mem_tiles f p).mp hp
    have h1 : ((colRect n q).emb x 1).val = 512 * q.val + 1 * (x 1).val := rfl
    have hx : (x 1).val < 512 := (x 1).isLt
    show f q x = f _ _
    have hq : (⟨((colRect n q).emb x 1).val / 512, by omega⟩ : Fin 6) = q := Fin.ext (by show _ / 512 = _; omega)
    rw [hq]
    refine congrArg (f q) (funext fun a => Fin.ext ?_)
    match a with
    | ⟨0, _⟩ => show (x 0).val = 0 + 1 * (x 0).val; omega
    | ⟨1, _⟩ => show (x 1).val = ((colRect n q).emb x 1).val % 512; omega
  · refine ⟨⟨colRect n ⟨j.val / 512, by omega⟩, f ⟨j.val / 512, by omega⟩⟩, (mem_tiles f _).mpr ⟨_, rfl⟩, ?_⟩
    refine (Rect.mem_set_unit (inb := colRect_inb n _)).mpr fun a => ?_
    fin_cases a
    · exact ⟨Nat.zero_le _, by simp⟩
    · exact ⟨by show 512 * (j.val / 512) ≤ j.val; omega, by show j.val < 512 * (j.val / 512) + 512; omega⟩

end Cert.Mx
-- ==== Proof.Blocks.lean ====
/-
  WHAT ONE GRID POINT LEAVES IN ITS OUTPUT BLOCKS, from the frame's run to the composed payloads of `Tile`, over any float
  semantics: the codes and scales of its block of `x`, those of the six column tiles of its block of `dy`, and the weight
  gradient's block with every column tile's product added to what the point before left (zeros at the first point).
-/
module

public import proofs.«01_k».proof.Proof.Gen.KernelIdeal.Frame
public import proofs.«01_k».proof.Proof.Tile
public import proofs.«01_k».proof.Proof.Cols
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.KernelIdeal.Mx

open Cert.KernelIdeal Cert.KernelIdeal.Gen Cert.Mx

variable {F : FTy → Type} [FloatOps F]
variable (m : (ℓ : Loc nD τ sig) → Buf (Elt F) ℓ)

/-- The point's blocks of `x` and `dy`. -/
def xIn (c : Dev nD) (t : Fin cfg0.N) : Vec F S512x1024 .bf16 := iblk m c 0 t
def dIn (c : Dev nD) (t : Fin cfg0.N) : Vec F S512x3072 .bf16 := iblk m c 1 t

theorem outs3 (c : Dev nD) (t : Fin cfg0.N) : (outsAt0 m c t.val t.isLt).2.1 = xCode (xIn m c t) := by
  by_cases h : t.val % 32 = 0
  · rw [outsAt0_A m c t h]; frame_out; rfl
  · rw [outsAt0_B m c t h]; frame_out; rfl

theorem outs4 (c : Dev nD) (t : Fin cfg0.N) : (outsAt0 m c t.val t.isLt).2.2.1 = xScale (xIn m c t) := by
  by_cases h : t.val % 32 = 0
  · rw [outsAt0_A m c t h]; frame_out; rfl
  · rw [outsAt0_B m c t h]; frame_out; rfl

/-- The six tiles of codes and of scales of `dy`. -/
def dCodes (v : Vec F S512x3072 .bf16) : List (View.Piece (Elt F) S512x3072 .fp8e5m2) := tiles fun q => dCode (colTile v q)
def dScales (v : Vec F S512x3072 .bf16) : List (View.Piece (Elt F) S16x3072 .f32) := tiles fun q => dScale (colTile v q)

theorem outs5 (c : Dev nD) (t : Fin cfg0.N) : (outsAt0 m c t.val t.isLt).2.2.2.1 = View.canon (dCodes (dIn m c t)) := by
  by_cases h : t.val % 32 = 0
  · rw [outsAt0_A m c t h]; frame_out; rfl
  · rw [outsAt0_B m c t h]; frame_out; rfl

theorem outs6 (c : Dev nD) (t : Fin cfg0.N) : (outsAt0 m c t.val t.isLt).2.2.2.2 = View.canon (dScales (dIn m c t)) := by
  by_cases h : t.val % 32 = 0
  · rw [outsAt0_A m c t h]; frame_out; rfl
  · rw [outsAt0_B m c t h]; frame_out; rfl

/-- The six updates of the weight gradient's block: `old` is what it held. -/
def dwTiles (old : Vec F S1024x3072 .f32) (x : Vec F S512x1024 .bf16) (d : Vec F S512x3072 .bf16) :
    List (View.Piece (Elt F) S1024x3072 .f32) := tiles fun q => k0_pay1 (colTile old q) (xHatT x) (dHat (colTile d q))

/-- At the first point the block is first filled with zeros. -/
theorem outs2_A (c : Dev nD) (t : Fin cfg0.N) (h : t.val % 32 = 0) : (outsAt0 m c t.val t.isLt).1
    = View.canon (dwTiles k0_pay82 (xIn m c t) (dIn m c t)
        ++ [⟨Rect.unit ![0, 0] ![1024, 3072] inb_S1024x3072_S1024x3072_0_0, k0_pay82⟩]) := by
  rw [outsAt0_A m c t h]
  frame_open
  simp (disch := decide) only [↓ View.readCov_skip, ↓ View.readCov_cons_toLoadRect, ↓ View.readCov_fill]
  frame_out
  rfl

/-- At every later point it holds what the point before left. -/
theorem outs2_B (c : Dev nD) (t : Fin cfg0.N) (h : ¬ t.val % 32 = 0) : (outsAt0 m c t.val t.isLt).1
    = View.canon (dwTiles (outsAt0 m c (t.val - 1) (Nat.lt_of_le_of_lt (Nat.sub_le _ _) t.isLt)).1 (xIn m c t) (dIn m c t) ++ []) := by
  rw [outsAt0_B m c t h]
  frame_open
  simp (disch := decide) only [↓ View.readCov_skip, ↓ View.readCov_cons_toLoadRect, ↓ View.readCov_fill]
  frame_out
  rfl

end Cert.KernelIdeal.Mx
-- ==== Proof.RefTile.lean ====
/-
  THE REFERENCE'S RESULTS AT AN INDEX, over the extended reals, in the words of `Spec`: the scales `2 ^ e`, the codes, and
  the weight gradient as one sum over all 16384 tokens.
-/
module

public import proofs.«01_k».proof.Proof.Gen.ReferenceIdeal.Skeleton
public import proofs.«01_k».proof.Proof.Spec
public import Idealize.ShloMosaic.Lib.Pointwise

@[expose] public section

set_option maxRecDepth 32768

noncomputable section

open Idealize.ShloMosaic

namespace Cert.ReferenceIdeal.Mx

open Cert.ReferenceIdeal Cert.ReferenceIdeal.Gen Cert.Mx

/-- Block `b` of column `j` of the whole of `x`, and of `dy`. -/
def xCol (v : Vec Ideal S16384x1024 .bf16) (b : Fin 512) (j : Fin 1024) (k : Fin 32) : EReal :=
  v (ix2 ⟨b.val * 32 + k.val, by omega⟩ j)
def dCol (v : Vec Ideal S16384x3072 .bf16) (b : Fin 512) (j : Fin 3072) (k : Fin 32) : EReal :=
  v (ix2 ⟨b.val * 32 + k.val, by omega⟩ j)

/-- The block a token lies in. -/
def blkOf (r : Fin 16384) : Fin 512 := ⟨r.val / 32, by omega⟩

theorem row_eq (r : Fin 16384) (h : r.val / 32 * 32 + r.val % 32 < 16384) :
    (⟨r.val / 32 * 32 + r.val % 32, h⟩ : Fin 16384) = r := Fin.ext (Nat.div_add_mod' r.val 32)

theorem xIn_apply (v : Vec Ideal S16384x1024 .bf16) (b : Fin 512) (k : Fin 32) (j : Fin 1024) :
    k0_pay1 v (ix3 b k j) = v (ix2 ⟨b.val * 32 + k.val, by omega⟩ j) := by
  pointwise [k0_pay1]

theorem dIn_apply (v : Vec Ideal S16384x3072 .bf16) (b : Fin 512) (k : Fin 32) (j : Fin 3072) :
    k0_pay5 v (ix3 b k j) = v (ix2 ⟨b.val * 32 + k.val, by omega⟩ j) := by
  pointwise [k0_pay5]

section
variable {F : FTy → Type} [FloatOps F]

/-- The exponent `e` of the scale, as vector operations. -/
def vexpo {s : Shape} (y : FVec F s .f32) : FVec F s .f32 :=
  select (ori (cmpf .olt y (broadcast s (Scalar.ofBits .f32 0x00800000#32)))
      (cmpf .oeq y (broadcast s (Scalar.ofBits .f32 0x7F800000#32))))
    (broadcast s (Scalar.ofBits .f32 0x00000000#32))
    (addf (floor (divf (log y) (log (broadcast s (Scalar.ofBits .f32 0x40000000#32)))))
      (broadcast s (Scalar.ofBits .f32 0x3F800000#32)))

/-- The `y` of `x`'s blocks. -/
def xY (u : FVec F S512x32x1024 .bf16) : FVec F S512x1024 .f32 :=
  mulf (extf .f32 (multiReduction .maximumf [1] S512x1024 (absf u) 0xFF80#16 reduces_S512x32x1024_S512x1024 (.inr rfl) rfl)
    bitsLt_bf16_f32) (broadcast S512x1024 (Scalar.ofBits .f32 0x3B124925#32))

/-- The codes of `x`'s blocks, over their exponents. -/
def xClip (u : FVec F S512x32x1024 .bf16) (e : FVec F S512x1024 .f32) : FVec F S16384x1024 .fp8e4m3 :=
  shapeCast S16384x1024 (truncf .fp8e4m3 (minimumf (broadcast S512x32x1024 (Scalar.ofBits .f32 0x43E00000#32))
    (maximumf (broadcast S512x32x1024 (Scalar.ofBits .f32 0xC3E00000#32)) (mulf (extf .f32 u bitsLt_bf16_f32)
      (broadcastTo S512x32x1024 (shapeCast S512x1x1024 (exp2 (subf (broadcast S512x1024 (Scalar.ofBits .f32 0x00000000#32)) e))
        shapeCasts_S512x1024_S512x1x1024) broadcasts_S512x1x1024_S512x32x1024)))) bitsLt_fp8e4m3_f32) shapeCasts_S512x32x1024_S16384x1024

/-- The `y` of `dy`'s blocks. -/
def dY (u : FVec F S512x32x3072 .bf16) : FVec F S512x3072 .f32 :=
  mulf (extf .f32 (multiReduction .maximumf [1] S512x3072 (absf u) 0xFF80#16 reduces_S512x32x3072_S512x3072 (.inr rfl) rfl)
    bitsLt_bf16_f32) (broadcast S512x3072 (Scalar.ofBits .f32 0x37924925#32))

/-- The codes of `dy`'s blocks, over their exponents. -/
def dClip (u : FVec F S512x32x3072 .bf16) (e : FVec F S512x3072 .f32) : FVec F S16384x3072 .fp8e5m2 :=
  shapeCast S16384x3072 (truncf .fp8e5m2 (minimumf (broadcast S512x32x3072 (Scalar.ofBits .f32 0x47600000#32))
    (maximumf (broadcast S512x32x3072 (Scalar.ofBits .f32 0xC7600000#32)) (mulf (extf .f32 u bitsLt_bf16_f32)
      (broadcastTo S512x32x3072 (shapeCast S512x1x3072 (exp2 (subf (broadcast S512x3072 (Scalar.ofBits .f32 0x00000000#32)) e))
        shapeCasts_S512x3072_S512x1x3072) broadcasts_S512x1x3072_S512x32x3072)))) bitsLt_fp8e5m2_f32) shapeCasts_S512x32x3072_S16384x3072

/-! The printed payloads are these. -/

theorem xScale_eq (v : Vec F S16384x1024 .bf16) : k0_pay3 v = exp2 (vexpo (xY (k0_pay1 v))) := rfl
theorem xCode_eq (v : Vec F S16384x1024 .bf16) : k0_pay4 v = xClip (k0_pay1 v) (vexpo (xY (k0_pay1 v))) := rfl
theorem dScale_eq (v : Vec F S16384x3072 .bf16) : k0_pay8 (k0_pay6 v) = exp2 (vexpo (dY (k0_pay5 v))) := rfl
theorem dCode_eq (v : Vec F S16384x3072 .bf16) :
    k0_pay9 (k0_pay5 v) (k0_pay6 v) = dClip (k0_pay5 v) (vexpo (dY (k0_pay5 v))) := rfl

end

/-! ## Their readings, over any operands -/

theorem vexpo_apply {s : Shape} (y : FVec Ideal s .f32) (i) : vexpo y i = expo (y i) := rfl

theorem exp2_apply {s : Shape} (e : FVec Ideal s .f32) (i) : exp2 e i = Ideal.exp2 (e i) := rfl

theorem mulf_apply {s : Shape} (a : FVec Ideal s .bf16) (c : BitVec 32) (i) :
    mulf (extf .f32 a bitsLt_bf16_f32) (broadcast s (Scalar.ofBits .f32 c)) i = a i * Ideal.ofBits .f32 c := rfl

theorem mulf_of {s : Shape} {a : FVec Ideal s .bf16} {z : EReal} {i} (h : a i = z) (c : BitVec 32) :
    mulf (extf .f32 a bitsLt_bf16_f32) (broadcast s (Scalar.ofBits .f32 c)) i = z * Ideal.ofBits .f32 c := by
  rw [mulf_apply, h]

theorem absf_apply {s : Shape} (a : FVec Ideal s .bf16) (i) : absf a i = mag (a i) := rfl

theorem xY_read (u : FVec Ideal S512x32x1024 .bf16) (b : Fin 512) (j : Fin 1024) :
    xY u (ix2 b j) = yOf e4m3 fun k => u (ix3 b k j) := by
  have e := Ideal.multiReduction_maximumf_single (s := S512x32x1024) (a := (1 : Fin 3)) (absf u) 0xFF80#16
    reduces_S512x32x1024_S512x1024 (.inr rfl) rfl (ix2 b j)
  have hl : ∀ k : Fin 32, reduces_S512x32x1024_S512x1024.lift (a := (1 : Fin 3)) (ix2 b j) k = ix3 b k j := fun k => by
    rw [eq_ix3 (reduces_S512x32x1024_S512x1024.lift (ix2 b j) k)]
    rfl
  have hs : (absf u ∘ reduces_S512x32x1024_S512x1024.lift (a := (1 : Fin 3)) (ix2 b j)) = fun k : Fin 32 => mag (u (ix3 b k j)) :=
    funext fun k => (congrArg (absf u) (hl k)).trans (absf_apply u _)
  rw [hs] at e
  exact mulf_of e _

theorem xClip_read (u : FVec Ideal S512x32x1024 .bf16) (e : FVec Ideal S512x1024 .f32) (r : Fin 16384) (j : Fin 1024) :
    xClip u e (ix2 r j) = clip e4m3 (u (ix3 (blkOf r) ⟨r.val % 32, by omega⟩ j))
      (Ideal.exp2 (Ideal.ofBits .f32 0x00000000#32 - e (ix2 (blkOf r) j))) := by
  unfold clip
  rw [Ideal.ofBits_zero_f32]
  pointwise [xClip]
  rfl

theorem dY_read (u : FVec Ideal S512x32x3072 .bf16) (b : Fin 512) (j : Fin 3072) :
    dY u (ix2 b j) = yOf e5m2 fun k => u (ix3 b k j) := by
  have e := Ideal.multiReduction_maximumf_single (s := S512x32x3072) (a := (1 : Fin 3)) (absf u) 0xFF80#16
    reduces_S512x32x3072_S512x3072 (.inr rfl) rfl (ix2 b j)
  have hl : ∀ k : Fin 32, reduces_S512x32x3072_S512x3072.lift (a := (1 : Fin 3)) (ix2 b j) k = ix3 b k j := fun k => by
    rw [eq_ix3 (reduces_S512x32x3072_S512x3072.lift (ix2 b j) k)]
    rfl
  have hs : (absf u ∘ reduces_S512x32x3072_S512x3072.lift (a := (1 : Fin 3)) (ix2 b j)) = fun k : Fin 32 => mag (u (ix3 b k j)) :=
    funext fun k => (congrArg (absf u) (hl k)).trans (absf_apply u _)
  rw [hs] at e
  exact mulf_of e _

theorem dClip_read (u : FVec Ideal S512x32x3072 .bf16) (e : FVec Ideal S512x3072 .f32) (r : Fin 16384) (j : Fin 3072) :
    dClip u e (ix2 r j) = clip e5m2 (u (ix3 (blkOf r) ⟨r.val % 32, by omega⟩ j))
      (Ideal.exp2 (Ideal.ofBits .f32 0x00000000#32 - e (ix2 (blkOf r) j))) := by
  unfold clip
  rw [Ideal.ofBits_zero_f32]
  pointwise [dClip]
  rfl

/-- The `y` of a block of `x`. -/
theorem xY_apply (v : Vec Ideal S16384x1024 .bf16) (b : Fin 512) (j : Fin 1024) :
    xY (k0_pay1 v) (ix2 b j) = yOf e4m3 (xCol v b j) := by
  rw [xY_read, show (fun k => k0_pay1 v (ix3 b k j)) = xCol v b j from funext fun k => xIn_apply v b k j]

/-- The scales of `x`. -/
theorem xScale_apply (v : Vec Ideal S16384x1024 .bf16) (b : Fin 512) (j : Fin 1024) :
    k0_pay3 v (ix2 b j) = rScale (yOf e4m3 (xCol v b j)) := by
  rw [xScale_eq, exp2_apply, vexpo_apply, xY_apply, rScale]

/-- The codes of `x`. -/
theorem xCode_apply (v : Vec Ideal S16384x1024 .bf16) (r : Fin 16384) (j : Fin 1024) :
    k0_pay4 v (ix2 r j) = rCode e4m3 (xCol v (blkOf r) j) (v (ix2 r j)) := by
  rw [xCode_eq, xClip_read, vexpo_apply, xY_apply, xIn_apply, rCode, rInv, blkOf, row_eq]

/-- The `y` of a block of `dy`. -/
theorem dY_apply (v : Vec Ideal S16384x3072 .bf16) (b : Fin 512) (j : Fin 3072) :
    dY (k0_pay5 v) (ix2 b j) = yOf e5m2 (dCol v b j) := by
  rw [dY_read, show (fun k => k0_pay5 v (ix3 b k j)) = dCol v b j from funext fun k => dIn_apply v b k j]

/-- The scales of `dy`. -/
theorem dScale_apply (v : Vec Ideal S16384x3072 .bf16) (b : Fin 512) (j : Fin 3072) :
    k0_pay8 (k0_pay6 v) (ix2 b j) = rScale (yOf e5m2 (dCol v b j)) := by
  rw [dScale_eq, exp2_apply, vexpo_apply, dY_apply, rScale]

/-- The codes of `dy`. -/
theorem dCode_apply (v : Vec Ideal S16384x3072 .bf16) (r : Fin 16384) (j : Fin 3072) :
    k0_pay9 (k0_pay5 v) (k0_pay6 v) (ix2 r j) = rCode e5m2 (dCol v (blkOf r) j) (v (ix2 r j)) := by
  rw [dCode_eq, dClip_read, vexpo_apply, dY_apply, dIn_apply, rCode, rInv, blkOf, row_eq]

/-- The weight gradient: one sum over the tokens. -/
theorem dw_apply (x : Vec Ideal S16384x1024 .bf16) (d : Vec Ideal S16384x3072 .bf16) (i : Fin 1024) (j : Fin 3072) :
    k0_pay10 (k0_pay3 x) (k0_pay4 x) (k0_pay5 d) (k0_pay6 d) (ix2 i j)
      = ∑ r : Fin 16384, rHat e4m3 (xCol x (blkOf r) i) (x (ix2 r i)) * rHat e5m2 (dCol d (blkOf r) j) (d (ix2 r j)) := by
  unfold rHat
  simp only [← xCode_apply, ← xScale_apply, ← dCode_apply, ← dScale_apply]
  pointwise [k0_pay10]
  rfl

end Cert.ReferenceIdeal.Mx
-- ==== Proof.Whole.lean ====
/-
  THE FIVE RESULTS AS WHOLE ARRAYS over the flattened tokens, each stated once for both ways of quantising a block
  (`Spec`): with the kernel's functions in the place of `code`, `scale` and `hat` they are what the kernel computes, with
  the reference's what the reference computes. The last section: on bounded inputs the two are equal.
-/
module

public import proofs.«01_k».proof.Proof.RefTile

@[expose] public section

noncomputable section

open Idealize.ShloMosaic
open Cert.ReferenceIdeal.Mx (xCol dCol blkOf)

namespace Cert.Mx

/-- All of `x` and of `dy`, one row per token; their scales, one row per block of 32 tokens; the weight gradient. -/
abbrev XS : Shape := ⟨2, ![16384, 1024]⟩
abbrev DS : Shape := ⟨2, ![16384, 3072]⟩
abbrev XBS : Shape := ⟨2, ![512, 1024]⟩
abbrev DBS : Shape := ⟨2, ![512, 3072]⟩
abbrev WS : Shape := ⟨2, ![1024, 3072]⟩

section
variable (code hat : Fmt → (Fin 32 → EReal) → EReal → EReal) (scale : EReal → EReal) (X : XS.Idx → EReal) (D : DS.Idx → EReal)

def xCodes : XS.Idx → EReal := fun i => code e4m3 (xCol X (blkOf (i 0)) (i 1)) (X i)
def dCodes : DS.Idx → EReal := fun i => code e5m2 (dCol D (blkOf (i 0)) (i 1)) (D i)
def xScales : XBS.Idx → EReal := fun i => scale (yOf e4m3 (xCol X (i 0) (i 1)))
def dScales : DBS.Idx → EReal := fun i => scale (yOf e5m2 (dCol D (i 0) (i 1)))

/-- One token's part of the weight gradient at row `i`, column `j`. -/
def dwTerm (i : Fin 1024) (j : Fin 3072) (r : Fin 16384) : EReal :=
  hat e4m3 (xCol X (blkOf r) i) (X (ix2 r i)) * hat e5m2 (dCol D (blkOf r) j) (D (ix2 r j))
def dwAll : WS.Idx → EReal := fun i => ∑ r : Fin 16384, dwTerm hat X D (i 0) (i 1) r
end

/-! ## On bounded inputs -/

section
variable {X : XS.Idx → EReal} {D : DS.Idx → EReal} (hX : ∀ i, Bounded (X i)) (hD : ∀ i, Bounded (D i))
include hX

theorem xCodes_eq : xCodes kCode X = xCodes rCode X :=
  funext fun _ => kCode_eq e4m3_agrees (fun _ => hX _) _
theorem xScales_eq : xScales kScale X = xScales rScale X :=
  funext fun _ => (e4m3_agrees _ fun _ => hX _).1

omit hX
include hD

theorem dCodes_eq : dCodes kCode D = dCodes rCode D :=
  funext fun _ => kCode_eq e5m2_agrees (fun _ => hD _) _
theorem dScales_eq : dScales kScale D = dScales rScale D :=
  funext fun _ => (e5m2_agrees _ fun _ => hD _).1

include hX

theorem dwAll_eq : dwAll kHat X D = dwAll rHat X D :=
  funext fun _ => Finset.sum_congr rfl fun _ _ =>
    congrArg₂ (· * ·) (kHat_eq e4m3_agrees (fun _ => hX _) _) (kHat_eq e5m2_agrees (fun _ => hD _) _)

end

end Cert.Mx
-- ==== Proof.Arrays.lean ====
/-
  THE KERNEL'S FIVE RESULT ARRAYS after the run, over the extended reals: grid point `t` holds tokens `512 t … 512 t + 511`,
  so block `b` of its tile is block `16 t + b` of the whole array.
-/
module

public import proofs.«01_k».proof.Proof.Gen.KernelIdeal.Value
public import proofs.«01_k».proof.Proof.Blocks
public import proofs.«01_k».proof.Proof.Whole

@[expose] public section

set_option maxRecDepth 16384

noncomputable section

open Idealize.ShloMosaic Idealize.ShloMosaic.TcCoe Idealize.SL.Sem
open Idealize.ShloMosaic.Pipeline (Dat)

namespace Cert.KernelIdeal.Mx

open Cert.KernelIdeal Cert.KernelIdeal.Gen Cert.KernelIdeal.Value Cert.Mx
open Cert.ReferenceIdeal.Mx (xCol dCol blkOf)

variable (m : (ℓ : Loc nD τ sig) → Buf (Elt Ideal) ℓ)

/-- The flattened `x` and `dy` as the kernel finds them. -/
def xAll (c : Dev nD) : XS.Idx → EReal := V m c main_v0
def dAll (c : Dev nD) : DS.Idx → EReal := V m c main_v1

/-- Every window's block index at point `t`: the weight gradient's block never moves, the others' is row block `t`. -/
theorem idx : ∀ t : Fin cfg0.N, win0_0.index t = ![t.val, 0] ∧ win0_1.index t = ![t.val, 0] ∧ win0_2.index t = ![0, 0] ∧
    win0_3.index t = ![t.val, 0] ∧ win0_4.index t = ![t.val, 0] ∧ win0_5.index t = ![t.val, 0] ∧ win0_6.index t = ![t.val, 0] :=
  (by decide +kernel : ∀ t : Fin grid0.N, _)

theorem pt_lt (t : Fin cfg0.N) : t.val < 32 := t.isLt

theorem xIn_tok (c : Dev nD) (t : Fin cfg0.N) (r : Fin 512) (j : Fin 1024) :
    xIn m c t (ix2 r j) = xAll m c (ix2 ⟨t.val * 512 + r.val, by have := pt_lt t; omega⟩ j) := by
  unfold xIn xAll
  blk_ext [iblk, idx t]

theorem dIn_tok (c : Dev nD) (t : Fin cfg0.N) (r : Fin 512) (j : Fin 3072) :
    dIn m c t (ix2 r j) = dAll m c (ix2 ⟨t.val * 512 + r.val, by have := pt_lt t; omega⟩ j) := by
  unfold dIn dAll
  blk_ext [iblk, idx t]

/-! ## Blocks of a point's tile as blocks of the whole -/

theorem xBlk_eq (c : Dev nD) (t : Fin cfg0.N) (b : Fin 16) (j : Fin 1024) :
    xBlk (xIn m c t) b j = xCol (xAll m c) ⟨t.val * 16 + b.val, by have := pt_lt t; omega⟩ j := by
  funext k
  unfold xBlk xCol
  rw [xIn_tok]
  congr 2
  exact Fin.ext (by show t.val * 512 + (b.val * 32 + k.val) = (t.val * 16 + b.val) * 32 + k.val; omega)

theorem dBlk_eq (c : Dev nD) (t : Fin cfg0.N) (q : Fin 6) (b : Fin 16) (j : Fin 512) :
    dBlk (colTile (dIn m c t) q) b j
      = dCol (dAll m c) ⟨t.val * 16 + b.val, by have := pt_lt t; omega⟩ ⟨512 * q.val + j.val, by omega⟩ := by
  funext k
  unfold dBlk dCol
  rw [colTile_apply, dIn_tok]
  congr 2
  exact Fin.ext (by show t.val * 512 + (b.val * 32 + k.val) = (t.val * 16 + b.val) * 32 + k.val; omega)

/-- Token `r` of point `t`, its block, and a column by tile and place. -/
theorem blk_tok (t : Fin cfg0.N) (r : Fin 512) (h : t.val * 16 + r.val / 32 < 512) (h' : t.val * 512 + r.val < 16384) :
    (⟨t.val * 16 + r.val / 32, h⟩ : Fin 512) = blkOf ⟨t.val * 512 + r.val, h'⟩ :=
  Fin.ext (by show t.val * 16 + r.val / 32 = (t.val * 512 + r.val) / 32; omega)
theorem col_divmod (j : Fin 3072) (h : 512 * (j.val / 512) + j.val % 512 < 3072) :
    (⟨512 * (j.val / 512) + j.val % 512, h⟩ : Fin 3072) = j := Fin.ext (Nat.div_add_mod j.val 512)

/-! ## What a point leaves, at an index -/

theorem xCode_tok (c : Dev nD) (t : Fin cfg0.N) (r : Fin 512) (j : Fin 1024) :
    xCode (xIn m c t) (ix2 r j) = xCodes kCode (xAll m c) (ix2 ⟨t.val * 512 + r.val, by have := pt_lt t; omega⟩ j) := by
  rw [xCode_apply, xBlk_eq, xIn_tok, blk_tok]
  rfl

theorem xScale_tok (c : Dev nD) (t : Fin cfg0.N) (b : Fin 16) (j : Fin 1024) :
    xScale (xIn m c t) (ix2 b j) = xScales kScale (xAll m c) (ix2 ⟨t.val * 16 + b.val, by have := pt_lt t; omega⟩ j) := by
  rw [xScale_apply, xBlk_eq]
  rfl

theorem dCode_tok (c : Dev nD) (t : Fin cfg0.N) (r : Fin 512) (j : Fin 3072) : View.canon (Mx.dCodes (dIn m c t)) (ix2 r j)
      = Cert.Mx.dCodes kCode (dAll m c) (ix2 ⟨t.val * 512 + r.val, by have := pt_lt t; omega⟩ j) := by
  unfold Mx.dCodes
  rw [← List.append_nil (tiles _), canon_tiles, dCode_apply, dBlk_eq, colTile_apply, dIn_tok, blk_tok, col_divmod]
  rfl

theorem dScale_tok (c : Dev nD) (t : Fin cfg0.N) (b : Fin 16) (j : Fin 3072) : View.canon (Mx.dScales (dIn m c t)) (ix2 b j)
      = Cert.Mx.dScales kScale (dAll m c) (ix2 ⟨t.val * 16 + b.val, by have := pt_lt t; omega⟩ j) := by
  unfold Mx.dScales
  rw [← List.append_nil (tiles _), canon_tiles, dScale_apply, dBlk_eq, col_divmod]
  rfl

/-! ## The arrays of codes and scales -/

/-- An index lies in the row block of `n` rows that its row falls into. -/
theorem rows_mem {R C : ℕ} (n : ℕ) (hn : 0 < n) (i : (⟨2, ![R, C]⟩ : Shape).Idx) (a : Fin 2) :
    (![(i 0).val / n, 0] : Fin 2 → ℕ) a * (![n, C] : Fin 2 → ℕ) a ≤ (i a).val ∧
      (i a).val < (![(i 0).val / n, 0] : Fin 2 → ℕ) a * (![n, C] : Fin 2 → ℕ) a + (![n, C] : Fin 2 → ℕ) a := by
  match a with
  | ⟨0, _⟩ => exact ⟨Nat.div_mul_le_self _ _, Nat.lt_div_mul_add hn⟩
  | ⟨1, _⟩ => exact ⟨(Nat.zero_mul C).le.trans (Nat.zero_le _), (i 1).isLt.trans_le (Nat.le_add_left _ _)⟩

/-- The point whose tile holds row `a` of an array cut into blocks of `n` rows. -/
def ptOf (n a : ℕ) (h : a < n * 32) : Fin cfg0.N := ⟨a / n, Nat.div_lt_of_lt_mul h⟩

theorem flushed3_eq (c : Dev nD) (t : Fin cfg0.N) (_ : (cfg0.win 3).flush t = true) :
    (dats m 0 c).flushed 3 t = ((cfg0.win 3).blk t).view.read (Elt Ideal) (xCodes kCode (xAll m c)) := by
  rw [flushed3, outs3]
  funext y
  obtain ⟨r, j, rfl⟩ : ∃ (r : Fin 512) (j : Fin 1024), y = ix2 r j := ⟨_, _, eq_ix2 y⟩
  refine (xCode_tok m c t r j).trans ?_
  blk_ext [idx t]

theorem cover3 (i : S16384x1024.Idx) : i ∈ ((cfg0.win 3).blk (ptOf 512 (i 0).val (i 0).isLt)).view.set := by
  show i ∈ ((View.whole main_v2_1).slice (win0_3.rect (ptOf 512 (i 0).val (i 0).isLt))).set
  rw [View.set_slice_whole]
  refine (win0_3.mem_rect_iff _ i).mpr ?_
  rw [(idx _).2.2.2.1]
  exact rows_mem 512 (by decide) i

theorem final3 (c : Dev nD) : (dats m 0 c).arrAt 3 cfg0.N = xCodes kCode (xAll m c) :=
  (dats m 0 c).arrAt_eq_of_cover 3 _ (flushed3_eq m c) fun i => ⟨_, flush0_3 _, cover3 i⟩

theorem flushed4_eq (c : Dev nD) (t : Fin cfg0.N) (_ : (cfg0.win 4).flush t = true) :
    (dats m 0 c).flushed 4 t = ((cfg0.win 4).blk t).view.read (Elt Ideal) (xScales kScale (xAll m c)) := by
  rw [flushed4, outs4]
  funext y
  obtain ⟨r, j, rfl⟩ : ∃ (r : Fin 16) (j : Fin 1024), y = ix2 r j := ⟨_, _, eq_ix2 y⟩
  refine (xScale_tok m c t r j).trans ?_
  blk_ext [idx t]

theorem cover4 (i : S512x1024.Idx) : i ∈ ((cfg0.win 4).blk (ptOf 16 (i 0).val (i 0).isLt)).view.set := by
  show i ∈ ((View.whole main_v2_2).slice (win0_4.rect (ptOf 16 (i 0).val (i 0).isLt))).set
  rw [View.set_slice_whole]
  refine (win0_4.mem_rect_iff _ i).mpr ?_
  rw [(idx _).2.2.2.2.1]
  exact rows_mem 16 (by decide) i

theorem final4 (c : Dev nD) : (dats m 0 c).arrAt 4 cfg0.N = xScales kScale (xAll m c) :=
  (dats m 0 c).arrAt_eq_of_cover 4 _ (flushed4_eq m c) fun i => ⟨_, flush0_4 _, cover4 i⟩

theorem flushed5_eq (c : Dev nD) (t : Fin cfg0.N) (_ : (cfg0.win 5).flush t = true) :
    (dats m 0 c).flushed 5 t = ((cfg0.win 5).blk t).view.read (Elt Ideal) (Cert.Mx.dCodes kCode (dAll m c)) := by
  rw [flushed5, outs5]
  funext y
  obtain ⟨r, j, rfl⟩ : ∃ (r : Fin 512) (j : Fin 3072), y = ix2 r j := ⟨_, _, eq_ix2 y⟩
  refine (dCode_tok m c t r j).trans ?_
  blk_ext [idx t]

theorem cover5 (i : S16384x3072.Idx) : i ∈ ((cfg0.win 5).blk (ptOf 512 (i 0).val (i 0).isLt)).view.set := by
  show i ∈ ((View.whole main_v2_3).slice (win0_5.rect (ptOf 512 (i 0).val (i 0).isLt))).set
  rw [View.set_slice_whole]
  refine (win0_5.mem_rect_iff _ i).mpr ?_
  rw [(idx _).2.2.2.2.2.1]
  exact rows_mem 512 (by decide) i

theorem final5 (c : Dev nD) : (dats m 0 c).arrAt 5 cfg0.N = Cert.Mx.dCodes kCode (dAll m c) :=
  (dats m 0 c).arrAt_eq_of_cover 5 _ (flushed5_eq m c) fun i => ⟨_, flush0_5 _, cover5 i⟩

theorem flushed6_eq (c : Dev nD) (t : Fin cfg0.N) (_ : (cfg0.win 6).flush t = true) :
    (dats m 0 c).flushed 6 t = ((cfg0.win 6).blk t).view.read (Elt Ideal) (Cert.Mx.dScales kScale (dAll m c)) := by
  rw [flushed6, outs6]
  funext y
  obtain ⟨r, j, rfl⟩ : ∃ (r : Fin 16) (j : Fin 3072), y = ix2 r j := ⟨_, _, eq_ix2 y⟩
  refine (dScale_tok m c t r j).trans ?_
  blk_ext [idx t]

theorem cover6 (i : S512x3072.Idx) : i ∈ ((cfg0.win 6).blk (ptOf 16 (i 0).val (i 0).isLt)).view.set := by
  show i ∈ ((View.whole main_v2_4).slice (win0_6.rect (ptOf 16 (i 0).val (i 0).isLt))).set
  rw [View.set_slice_whole]
  refine (win0_6.mem_rect_iff _ i).mpr ?_
  rw [(idx _).2.2.2.2.2.2]
  exact rows_mem 16 (by decide) i

theorem final6 (c : Dev nD) : (dats m 0 c).arrAt 6 cfg0.N = Cert.Mx.dScales kScale (dAll m c) :=
  (dats m 0 c).arrAt_eq_of_cover 6 _ (flushed6_eq m c) fun i => ⟨_, flush0_6 _, cover6 i⟩

end Cert.KernelIdeal.Mx
-- ==== Proof.Grad.lean ====
/-
  THE WEIGHT GRADIENT'S ARRAY after the run, over the extended reals: every grid point adds its 512 tokens' products to
  what the point before left, so the last point leaves the sum over all 16384 tokens.
-/
module

public import proofs.«01_k».proof.Proof.Arrays

@[expose] public section

set_option maxRecDepth 16384

noncomputable section

open Idealize.ShloMosaic Idealize.ShloMosaic.TcCoe Idealize.SL.Sem
open Idealize.ShloMosaic.Pipeline (Dat)

namespace Cert.KernelIdeal.Mx

open Cert.KernelIdeal Cert.KernelIdeal.Gen Cert.KernelIdeal.Value Cert.Mx
open Cert.ReferenceIdeal.Mx (xCol dCol blkOf)

variable (m : (ℓ : Loc nD τ sig) → Buf (Elt Ideal) ℓ)

/-- The product the kernel adds to one tile. -/
theorem prod_apply (v : FVec Ideal S1024x512 .f32) (x : FVec Ideal S1024x512 .bf16) (d : FVec Ideal S512x512 .bf16)
    (r : Fin 1024) (j : Fin 512) : k0_pay1 v x d (ix2 r j) = v (ix2 r j) + ∑ k : Fin 512, x (ix2 r k) * d (ix2 k j) := by
  pointwise [k0_pay1]

theorem zeros_apply (i : S1024x3072.Idx) : (k0_pay82 : FVec Ideal S1024x3072 .f32) i = 0 := by
  show Ideal.ofBits .f32 0#32 = 0
  exact Ideal.ofBits_zero_f32

/-- Point `t`'s part of row `i`, column `j`: its tokens' products. -/
def part (c : Dev nD) (t : Fin cfg0.N) (i : Fin 1024) (j : Fin 3072) : EReal :=
  ∑ k : Fin 512, dwTerm kHat (xAll m c) (dAll m c) i j ⟨t.val * 512 + k.val, by have := pt_lt t; omega⟩

theorem hats_tok (c : Dev nD) (t : Fin cfg0.N) (i : Fin 1024) (j : Fin 3072) (k : Fin 512) :
    xHatT (xIn m c t) (ix2 i k) * dHat (colTile (dIn m c t) ⟨j.val / 512, by omega⟩) (ix2 k ⟨j.val % 512, by omega⟩)
      = dwTerm kHat (xAll m c) (dAll m c) i j ⟨t.val * 512 + k.val, by have := pt_lt t; omega⟩ := by
  rw [xHatT_apply, dHat_apply, xBlk_eq, dBlk_eq, colTile_apply, xIn_tok, dIn_tok, blk_tok, col_divmod]
  rfl

/-- Six updated tiles at an index: what the block held, and the point's part. -/
theorem dwTiles_apply (c : Dev nD) (t : Fin cfg0.N) (old : Vec Ideal S1024x3072 .f32)
    (L : List (View.Piece (Elt Ideal) S1024x3072 .f32)) (i : Fin 1024) (j : Fin 3072) :
    View.canon (dwTiles old (xIn m c t) (dIn m c t) ++ L) (ix2 i j) = old (ix2 i j) + part m c t i j := by
  unfold dwTiles
  rw [canon_tiles, prod_apply, colTile_apply, col_divmod]
  exact congrArg (old (ix2 i j) + ·) (Finset.sum_congr rfl fun k _ => hats_tok m c t i j k)

/-- The grid's last point. -/
def lastPt : Fin cfg0.N := ⟨31, by decide⟩

/-- After the last point: the sum over all tokens. -/
theorem outs2_last (c : Dev nD) (i : Fin 1024) (j : Fin 3072) :
    (outsAt0 m c lastPt.val lastPt.isLt).1 (ix2 i j) = dwAll kHat (xAll m c) (dAll m c) (ix2 i j) := by
  rw [Pipeline.eq_sum_fin_of_reset_step_apply_last (fun n h => (outsAt0 m c n h).1) 32 (fun _ => 0)
    (fun t y => part m c t (y 0) (y 1))
    (fun t h y => by
      obtain ⟨a, b, rfl⟩ : ∃ (a : Fin 1024) (b : Fin 3072), y = ix2 a b := ⟨_, _, eq_ix2 y⟩
      rw [outs2_A m c t h, dwTiles_apply, zeros_apply]
      rfl)
    (fun t h y => by
      obtain ⟨a, b, rfl⟩ : ∃ (a : Fin 1024) (b : Fin 3072), y = ix2 a b := ⟨_, _, eq_ix2 y⟩
      rw [outs2_B m c t h, dwTiles_apply]
      rfl)
    (le_of_eq N_0) lastPt rfl (ix2 i j), zero_add]
  exact Fin.sum_mul_add_fin 32 512 (dwTerm kHat (xAll m c) (dAll m c) i j)

/-! ## The array: the last point alone writes it, whole -/

theorem flushed2_eq (c : Dev nD) (t : Fin cfg0.N) (hf : (cfg0.win 2).flush t = true) :
    (dats m 0 c).flushed 2 t = ((cfg0.win 2).blk t).view.read (Elt Ideal) (dwAll kHat (xAll m c) (dAll m c)) := by
  have ht : lastPt = t := Fin.ext (by have h := (flush0_2 t).mp hf; have := pt_lt t; show 31 = t.val; omega)
  rw [flushed2]
  funext y
  obtain ⟨i, j, rfl⟩ : ∃ (i : Fin 1024) (j : Fin 3072), y = ix2 i j := ⟨_, _, eq_ix2 y⟩
  have e := outs2_last m c i j
  rw [ht] at e
  refine e.trans ?_
  generalize dwAll kHat (xAll m c) (dAll m c) = w
  blk_ext [idx t]

theorem cover2 (i : S1024x3072.Idx) : i ∈ ((cfg0.win 2).blk lastPt).view.set := by
  show i ∈ ((View.whole main_v2_0).slice (win0_2.rect lastPt)).set
  rw [View.set_slice_whole]
  refine (win0_2.mem_rect_iff _ i).mpr ?_
  rw [(idx _).2.2.1]
  intro a
  match a with
  | ⟨0, _⟩ => exact ⟨(Nat.zero_mul 1024).le.trans (Nat.zero_le _), (i 0).isLt.trans_le (Nat.le_add_left _ _)⟩
  | ⟨1, _⟩ => exact ⟨(Nat.zero_mul 3072).le.trans (Nat.zero_le _), (i 1).isLt.trans_le (Nat.le_add_left _ _)⟩

theorem final2 (c : Dev nD) : (dats m 0 c).arrAt 2 cfg0.N = dwAll kHat (xAll m c) (dAll m c) :=
  (dats m 0 c).arrAt_eq_of_cover 2 _ (flushed2_eq m c) fun i => ⟨lastPt, (flush0_2 lastPt).mpr rfl, cover2 i⟩

end Cert.KernelIdeal.Mx
-- ==== Proof.RefRun.lean ====
/-
  THE REFERENCE'S RUN and its five result arrays, over the extended reals: it has one grid point, which reads and writes
  whole arrays.
-/
module

public import proofs.«01_k».proof.Proof.Gen.ReferenceIdeal.Frame
public import proofs.«01_k».proof.Proof.Whole
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.ReferenceIdeal.Mx

open Cert.ReferenceIdeal Cert.ReferenceIdeal.Gen Cert.Mx

section
variable {F : FTy → Type} [FloatOps F]
variable (m : (ℓ : Loc nD τ sig) → Buf (Elt F) ℓ) (ρ : Dev nD → PrngReg)

/-- The run: each result buffer holds its window's array, both arguments are unchanged. -/
theorem run_blocks : θ_run defs (onTc (τ := τ) (main (F := F))) ⟨m, fun _ => 0, ρ⟩ fun r => ∀ c : Dev nD,
      r.2.mem ((c : Thread nD τ).loc main_v2_0) = (dats m 0 c).arrAt 2 cfg0.N
      ∧ r.2.mem ((c : Thread nD τ).loc main_v2_1) = (dats m 0 c).arrAt 3 cfg0.N
      ∧ r.2.mem ((c : Thread nD τ).loc main_v2_2) = (dats m 0 c).arrAt 4 cfg0.N
      ∧ r.2.mem ((c : Thread nD τ).loc main_v2_3) = (dats m 0 c).arrAt 5 cfg0.N
      ∧ r.2.mem ((c : Thread nD τ).loc main_v2_4) = (dats m 0 c).arrAt 6 cfg0.N
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1 2, (h c).1 3, (h c).1 4, (h c).1 5, (h c).1 6,
      ((h c).2 main_arg0 (Pipeline.mem_restRefs_of main_arg0 (by decide) (by decide))).trans (V_main_arg0 m c),
      ((h c).2 main_arg1 (Pipeline.mem_restRefs_of main_arg1 (by decide) (by decide))).trans (V_main_arg1 m c)⟩)
    (run_main m ρ)

/-- Loads of the whole of an input. -/
theorem ldX (x : Vec F S16384x1024 .bf16) : View.ld x r0_0 = x :=
  View.ld_unit_zero (funext fun a => by fin_cases a <;> rfl) _ x
theorem ldD (d : Vec F S16384x3072 .bf16) : View.ld d r0_1 = d :=
  View.ld_unit_zero (funext fun a => by fin_cases a <;> rfl) _ d

/-- What the body leaves in its five output buffers: one store each, of the whole buffer. -/
theorem out2 (x : Vec F S16384x1024 .bf16) (d : Vec F S16384x3072 .bf16) :
    out0_2 x d = k0_pay10 (k0_pay3 x) (k0_pay4 x) (k0_pay5 d) (k0_pay6 d) := by
  frame_out
  unfold k0_pay11 k0_pay12 k0_pay13 k0_pay14
  rw [ldX, ldD]
theorem out3 (x : Vec F S16384x1024 .bf16) (d : Vec F S16384x3072 .bf16) : out0_3 x d = k0_pay4 x := by
  frame_out
  unfold k0_pay12
  rw [ldX]
theorem out4 (x : Vec F S16384x1024 .bf16) (d : Vec F S16384x3072 .bf16) : out0_4 x d = k0_pay3 x := by
  frame_out
  unfold k0_pay11
  rw [ldX]
theorem out5 (x : Vec F S16384x1024 .bf16) (d : Vec F S16384x3072 .bf16) :
    out0_5 x d = k0_pay9 (k0_pay5 d) (k0_pay6 d) := by
  frame_out
  unfold k0_pay13 k0_pay14
  rw [ldD]
theorem out6 (x : Vec F S16384x1024 .bf16) (d : Vec F S16384x3072 .bf16) : out0_6 x d = k0_pay8 (k0_pay6 d) := by
  frame_out
  unfold k0_pay14
  rw [ldD]

/-- Every window's block index is zero. -/
theorem idx : ∀ t : Fin cfg0.N, win0_0.index t = ![0, 0] ∧ win0_1.index t = ![0, 0] ∧ win0_2.index t = ![0, 0] ∧
    win0_3.index t = ![0, 0] ∧ win0_4.index t = ![0, 0] ∧ win0_5.index t = ![0, 0] ∧ win0_6.index t = ![0, 0] :=
  (by decide +kernel : ∀ t : Fin grid0.N, _)
end

variable (m : (ℓ : Loc nD τ sig) → Buf (Elt Ideal) ℓ)

/-- The flattened `x` and `dy` as the reference finds them. -/
def xAll (c : Dev nD) : XS.Idx → EReal := V m c main_v0
def dAll (c : Dev nD) : DS.Idx → EReal := V m c main_v1

theorem xIn_eq (c : Dev nD) (t : Fin cfg0.N) : (iblk m c 0 t : Vec Ideal S16384x1024 .bf16) = xAll m c := by
  funext y
  obtain ⟨i, j, rfl⟩ : ∃ (i : Fin 16384) (j : Fin 1024), y = ix2 i j := ⟨_, _, eq_ix2 y⟩
  unfold xAll
  blk_ext [iblk, idx t]

theorem dIn_eq (c : Dev nD) (t : Fin cfg0.N) : (iblk m c 1 t : Vec Ideal S16384x3072 .bf16) = dAll m c := by
  funext y
  obtain ⟨i, j, rfl⟩ : ∃ (i : Fin 16384) (j : Fin 3072), y = ix2 i j := ⟨_, _, eq_ix2 y⟩
  unfold dAll
  blk_ext [iblk, idx t]

/-! ## The five payloads as whole arrays -/

theorem codesX (x : Vec Ideal S16384x1024 .bf16) : (k0_pay4 x : XS.Idx → EReal) = xCodes rCode x := by
  funext y
  obtain ⟨i, j, rfl⟩ : ∃ (i : Fin 16384) (j : Fin 1024), y = ix2 i j := ⟨_, _, eq_ix2 y⟩
  exact xCode_apply x i j

theorem scalesX (x : Vec Ideal S16384x1024 .bf16) : (k0_pay3 x : XBS.Idx → EReal) = xScales rScale x := by
  funext y
  obtain ⟨i, j, rfl⟩ : ∃ (i : Fin 512) (j : Fin 1024), y = ix2 i j := ⟨_, _, eq_ix2 y⟩
  exact xScale_apply x i j

theorem codesD (d : Vec Ideal S16384x3072 .bf16) : (k0_pay9 (k0_pay5 d) (k0_pay6 d) : DS.Idx → EReal) = dCodes rCode d := by
  funext y
  obtain ⟨i, j, rfl⟩ : ∃ (i : Fin 16384) (j : Fin 3072), y = ix2 i j := ⟨_, _, eq_ix2 y⟩
  exact dCode_apply d i j

theorem scalesD (d : Vec Ideal S16384x3072 .bf16) : (k0_pay8 (k0_pay6 d) : DBS.Idx → EReal) = dScales rScale d := by
  funext y
  obtain ⟨i, j, rfl⟩ : ∃ (i : Fin 512) (j : Fin 3072), y = ix2 i j := ⟨_, _, eq_ix2 y⟩
  exact dScale_apply d i j

theorem gradXD (x : Vec Ideal S16384x1024 .bf16) (d : Vec Ideal S16384x3072 .bf16) :
    (k0_pay10 (k0_pay3 x) (k0_pay4 x) (k0_pay5 d) (k0_pay6 d) : WS.Idx → EReal) = dwAll rHat x d := by
  funext y
  obtain ⟨i, j, rfl⟩ : ∃ (i : Fin 1024) (j : Fin 3072), y = ix2 i j := ⟨_, _, eq_ix2 y⟩
  exact dw_apply x d i j

/-! ## The arrays: the one point writes each, whole -/

/-- Every index lies in the block of index zero that is the whole array. -/
theorem whole_mem {R C : ℕ} (i : (⟨2, ![R, C]⟩ : Shape).Idx) (a : Fin 2) :
    (![0, 0] : Fin 2 → ℕ) a * (![R, C] : Fin 2 → ℕ) a ≤ (i a).val ∧
      (i a).val < (![0, 0] : Fin 2 → ℕ) a * (![R, C] : Fin 2 → ℕ) a + (![R, C] : Fin 2 → ℕ) a := by
  match a with
  | ⟨0, _⟩ => exact ⟨(Nat.zero_mul R).le.trans (Nat.zero_le _), (i 0).isLt.trans_le (Nat.le_add_left _ _)⟩
  | ⟨1, _⟩ => exact ⟨(Nat.zero_mul C).le.trans (Nat.zero_le _), (i 1).isLt.trans_le (Nat.le_add_left _ _)⟩

/-- The grid's point. -/
def pt : Fin cfg0.N := ⟨0, by decide⟩

theorem flushed2_eq (c : Dev nD) (t : Fin cfg0.N) (_ : (cfg0.win 2).flush t = true) :
    (dats m 0 c).flushed 2 t = ((cfg0.win 2).blk t).view.read (Elt Ideal) (dwAll rHat (xAll m c) (dAll m c)) := by
  show (cfg0.win 2).cut (grid0.coords t) ((dats m 0 c).after 2 t) = _
  rw [after0_2, out2, xIn_eq, dIn_eq, gradXD]
  generalize dwAll rHat (xAll m c) (dAll m c) = v
  funext y
  obtain ⟨i, j, rfl⟩ : ∃ (i : Fin 1024) (j : Fin 3072), y = ix2 i j := ⟨_, _, eq_ix2 y⟩
  show v (ix2 i j) = _
  blk_ext [idx t]

theorem cover2 (i : S1024x3072.Idx) : i ∈ ((cfg0.win 2).blk pt).view.set := by
  show i ∈ ((View.whole main_v2_0).slice (win0_2.rect pt)).set
  rw [View.set_slice_whole]
  refine (win0_2.mem_rect_iff _ i).mpr ?_
  rw [(idx _).2.2.1]
  exact whole_mem i

theorem final2 (c : Dev nD) : (dats m 0 c).arrAt 2 cfg0.N = dwAll rHat (xAll m c) (dAll m c) :=
  (dats m 0 c).arrAt_eq_of_cover 2 _ (flushed2_eq m c) fun i => ⟨pt, flush0_2 _, cover2 i⟩

theorem flushed3_eq (c : Dev nD) (t : Fin cfg0.N) (_ : (cfg0.win 3).flush t = true) :
    (dats m 0 c).flushed 3 t = ((cfg0.win 3).blk t).view.read (Elt Ideal) (xCodes rCode (xAll m c)) := by
  show (cfg0.win 3).cut (grid0.coords t) ((dats m 0 c).after 3 t) = _
  rw [after0_3, out3, xIn_eq, codesX]
  generalize xCodes rCode (xAll m c) = v
  funext y
  obtain ⟨i, j, rfl⟩ : ∃ (i : Fin 16384) (j : Fin 1024), y = ix2 i j := ⟨_, _, eq_ix2 y⟩
  show v (ix2 i j) = _
  blk_ext [idx t]

theorem cover3 (i : S16384x1024.Idx) : i ∈ ((cfg0.win 3).blk pt).view.set := by
  show i ∈ ((View.whole main_v2_1).slice (win0_3.rect pt)).set
  rw [View.set_slice_whole]
  refine (win0_3.mem_rect_iff _ i).mpr ?_
  rw [(idx _).2.2.2.1]
  exact whole_mem i

theorem final3 (c : Dev nD) : (dats m 0 c).arrAt 3 cfg0.N = xCodes rCode (xAll m c) :=
  (dats m 0 c).arrAt_eq_of_cover 3 _ (flushed3_eq m c) fun i => ⟨pt, flush0_3 _, cover3 i⟩

theorem flushed4_eq (c : Dev nD) (t : Fin cfg0.N) (_ : (cfg0.win 4).flush t = true) :
    (dats m 0 c).flushed 4 t = ((cfg0.win 4).blk t).view.read (Elt Ideal) (xScales rScale (xAll m c)) := by
  show (cfg0.win 4).cut (grid0.coords t) ((dats m 0 c).after 4 t) = _
  rw [after0_4, out4, xIn_eq, scalesX]
  generalize xScales rScale (xAll m c) = v
  funext y
  obtain ⟨i, j, rfl⟩ : ∃ (i : Fin 512) (j : Fin 1024), y = ix2 i j := ⟨_, _, eq_ix2 y⟩
  show v (ix2 i j) = _
  blk_ext [idx t]

theorem cover4 (i : S512x1024.Idx) : i ∈ ((cfg0.win 4).blk pt).view.set := by
  show i ∈ ((View.whole main_v2_2).slice (win0_4.rect pt)).set
  rw [View.set_slice_whole]
  refine (win0_4.mem_rect_iff _ i).mpr ?_
  rw [(idx _).2.2.2.2.1]
  exact whole_mem i

theorem final4 (c : Dev nD) : (dats m 0 c).arrAt 4 cfg0.N = xScales rScale (xAll m c) :=
  (dats m 0 c).arrAt_eq_of_cover 4 _ (flushed4_eq m c) fun i => ⟨pt, flush0_4 _, cover4 i⟩

theorem flushed5_eq (c : Dev nD) (t : Fin cfg0.N) (_ : (cfg0.win 5).flush t = true) :
    (dats m 0 c).flushed 5 t = ((cfg0.win 5).blk t).view.read (Elt Ideal) (dCodes rCode (dAll m c)) := by
  show (cfg0.win 5).cut (grid0.coords t) ((dats m 0 c).after 5 t) = _
  rw [after0_5, out5, dIn_eq, codesD]
  generalize dCodes rCode (dAll m c) = v
  funext y
  obtain ⟨i, j, rfl⟩ : ∃ (i : Fin 16384) (j : Fin 3072), y = ix2 i j := ⟨_, _, eq_ix2 y⟩
  show v (ix2 i j) = _
  blk_ext [idx t]

theorem cover5 (i : S16384x3072.Idx) : i ∈ ((cfg0.win 5).blk pt).view.set := by
  show i ∈ ((View.whole main_v2_3).slice (win0_5.rect pt)).set
  rw [View.set_slice_whole]
  refine (win0_5.mem_rect_iff _ i).mpr ?_
  rw [(idx _).2.2.2.2.2.1]
  exact whole_mem i

theorem final5 (c : Dev nD) : (dats m 0 c).arrAt 5 cfg0.N = dCodes rCode (dAll m c) :=
  (dats m 0 c).arrAt_eq_of_cover 5 _ (flushed5_eq m c) fun i => ⟨pt, flush0_5 _, cover5 i⟩

theorem flushed6_eq (c : Dev nD) (t : Fin cfg0.N) (_ : (cfg0.win 6).flush t = true) :
    (dats m 0 c).flushed 6 t = ((cfg0.win 6).blk t).view.read (Elt Ideal) (dScales rScale (dAll m c)) := by
  show (cfg0.win 6).cut (grid0.coords t) ((dats m 0 c).after 6 t) = _
  rw [after0_6, out6, dIn_eq, scalesD]
  generalize dScales rScale (dAll m c) = v
  funext y
  obtain ⟨i, j, rfl⟩ : ∃ (i : Fin 512) (j : Fin 3072), y = ix2 i j := ⟨_, _, eq_ix2 y⟩
  show v (ix2 i j) = _
  blk_ext [idx t]

theorem cover6 (i : S512x3072.Idx) : i ∈ ((cfg0.win 6).blk pt).view.set := by
  show i ∈ ((View.whole main_v2_4).slice (win0_6.rect pt)).set
  rw [View.set_slice_whole]
  refine (win0_6.mem_rect_iff _ i).mpr ?_
  rw [(idx _).2.2.2.2.2.2]
  exact whole_mem i

theorem final6 (c : Dev nD) : (dats m 0 c).arrAt 6 cfg0.N = dScales rScale (dAll m c) :=
  (dats m 0 c).arrAt_eq_of_cover 6 _ (flushed6_eq m c) fun i => ⟨pt, flush0_6 _, cover6 i⟩

end Cert.ReferenceIdeal.Mx
-- ==== Proof.Inputs.lean ====
/-
  THE FLATTENED INPUTS. Both programs first reshape `[8, 2048, C]` to `[16384, C]` on the host, so on equal arguments they
  read equal arrays, and every element of the flattened array is an element of the argument.
-/
module

public import proofs.«01_k».proof.Proof.Grad
public import proofs.«01_k».proof.Proof.RefRun
public import Idealize.ShloMosaic.Lib.Claim

@[expose] public section

noncomputable section

open Idealize.ShloMosaic Idealize.ShloMosaic.TcCoe Idealize.SL.Sem

namespace Cert.Mx

/-- The arguments' shapes, and the host's reshapes. -/
abbrev XArg : Shape := ⟨3, ![8, 2048, 1024]⟩
abbrev DArg : Shape := ⟨3, ![8, 2048, 3072]⟩
def flatX (x : XArg.Idx → EReal) : XS.Idx → EReal := shapeCast XS x (by decide)
def flatD (d : DArg.Idx → EReal) : DS.Idx → EReal := shapeCast DS d (by decide)

theorem flatX_bounded {x : XArg.Idx → EReal} (h : ∀ i, Bounded (x i)) (i : XS.Idx) : Bounded (flatX x i) := h _
theorem flatD_bounded {d : DArg.Idx → EReal} (h : ∀ i, Bounded (d i)) (i : DS.Idx) : Bounded (flatD d i) := h _

end Cert.Mx

namespace Cert.KernelIdeal.Mx

open Cert.KernelIdeal Cert.KernelIdeal.Gen Cert.Mx

variable (m : (ℓ : Loc nD τ sig) → Buf (Elt Ideal) ℓ) (c : Dev nD)

theorem xAll_eq : xAll m c = flatX (m ((c : Thread nD τ).loc main_arg0)) := by unfold xAll; entry_read; rfl
theorem dAll_eq : dAll m c = flatD (m ((c : Thread nD τ).loc main_arg1)) := by unfold dAll; entry_read; rfl

end Cert.KernelIdeal.Mx

namespace Cert.ReferenceIdeal.Mx

open Cert.ReferenceIdeal Cert.ReferenceIdeal.Gen Cert.Mx

variable (m : (ℓ : Loc nD τ sig) → Buf (Elt Ideal) ℓ) (c : Dev nD)

theorem xAll_eq : xAll m c = flatX (m ((c : Thread nD τ).loc main_arg0)) := by unfold xAll; entry_read; rfl
theorem dAll_eq : dAll m c = flatD (m ((c : Thread nD τ).loc main_arg1)) := by unfold dAll; entry_read; rfl

end Cert.ReferenceIdeal.Mx
-- ==== Proof.Pre.lean ====
/-
  WHAT THE PRECONDITION SAYS of each element of `x` and of `dy`: it is bounded (`Spec.Bounded`).
-/
module

public import proofs.«01_k».proof.Proof.Gen.Pre_finite
public import proofs.«01_k».proof.Proof.Spec
public import Idealize.ShloMosaic.Lib.ReduceAll
public import Idealize.ShloMosaic.Lib.Pointwise

@[expose] public section

noncomputable section

open Idealize.ShloMosaic

namespace Cert.Pre_finite.Mx

open Cert.Pre_finite Cert.Mx

theorem top_bits : Ideal.ofBits .bf16 0x7F80#16 = ⊤ := by simp [Ideal.ofBits, Ideal.ieee]

/-- The predicate at one element. -/
theorem bounded_of (v : EReal)
    (h : IntOp.ori (Ideal.cmp .ole (mag v) (Ideal.ofBits .bf16 0x7F7F#16)) (Ideal.cmp .oeq (mag v) (Ideal.ofBits .bf16 0x7F80#16)) = 1#1) :
    Bounded v := by
  rw [top_bits] at h
  by_contra hn
  have h1 : ¬ mag v ≤ Ideal.ofBits .bf16 0x7F7F#16 := fun e => hn (Or.inl e)
  have h2 : ¬ mag v = ⊤ := fun e => hn (Or.inr e)
  simp [Ideal.cmp, IntOp.ori, h1, h2] at h

instance : Subsingleton S_.Idx := ⟨fun _ _ => funext fun a => a.elim0⟩

theorem bounded (x : FVec Ideal S8x2048x1024 .bf16) (d : FVec Ideal S8x2048x3072 .bf16) (h : fn (F := Ideal) x d = fun _ => 1#1) :
    (∀ i, Bounded (x i)) ∧ ∀ i, Bounded (d i) := by
  obtain ⟨hx, hd⟩ := IntOp.andi_eq_one.1 (congrFun h (Shape.Idx.first Gen.h_S_))
  exact ⟨fun i => bounded_of _ (Host.reduce_andi_all _ _ _ _ _ hx i), fun i => bounded_of _ (Host.reduce_andi_all _ _ _ _ _ hd i)⟩

end Cert.Pre_finite.Mx
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_finite
public import proofs.«01_k».proof.Proof.Gen.KernelIdeal.Value
public import proofs.«01_k».proof.Proof.Inputs
public import proofs.«01_k».proof.Proof.Pre
public import Idealize.ShloMosaic.Adequacy
public import Idealize.ShloMosaic.Init

@[expose] public section

noncomputable section

namespace Cert.Proof

open Idealize.ShloMosaic Idealize.SL.Sem Cert.Kernel

open Cert.Mx in
/-- The value claim: on bounded arguments both programs end with the reference's five arrays. -/
theorem algebraic : Cert.algebraic_KernelIdeal_ReferenceIdeal_pre_finite := by
  intro m g m' g' hpre hargs
  have hx (c : Dev Cert.KernelIdeal.nD) : Cert.ReferenceIdeal.Mx.xAll m' c = Cert.KernelIdeal.Mx.xAll m c := by
    rw [Cert.ReferenceIdeal.Mx.xAll_eq, Cert.KernelIdeal.Mx.xAll_eq]
    exact congrArg flatX (hargs c).1
  have hd (c : Dev Cert.KernelIdeal.nD) : Cert.ReferenceIdeal.Mx.dAll m' c = Cert.KernelIdeal.Mx.dAll m c := by
    rw [Cert.ReferenceIdeal.Mx.dAll_eq, Cert.KernelIdeal.Mx.dAll_eq]
    exact congrArg flatD (hargs c).2
  have bx (c : Dev Cert.KernelIdeal.nD) (i) : Bounded (Cert.KernelIdeal.Mx.xAll m c i) := by
    rw [Cert.KernelIdeal.Mx.xAll_eq]
    exact flatX_bounded (Cert.Pre_finite.Mx.bounded _ _ (hpre c)).1 i
  have bd (c : Dev Cert.KernelIdeal.nD) (i) : Bounded (Cert.KernelIdeal.Mx.dAll m c i) := by
    rw [Cert.KernelIdeal.Mx.dAll_eq]
    exact flatD_bounded (Cert.Pre_finite.Mx.bounded _ _ (hpre c)).2 i
  refine ⟨fun c => dwAll rHat (Cert.KernelIdeal.Mx.xAll m c) (Cert.KernelIdeal.Mx.dAll m c),
    fun c => xCodes rCode (Cert.KernelIdeal.Mx.xAll m c), fun c => xScales rScale (Cert.KernelIdeal.Mx.xAll m c),
    fun c => dCodes rCode (Cert.KernelIdeal.Mx.dAll m c), fun c => dScales rScale (Cert.KernelIdeal.Mx.dAll m c), ?_, ?_⟩
  · refine (θ_run Cert.KernelIdeal.defs _ _).mono (fun r h c => ?_) (Cert.KernelIdeal.Value.run_blocks m g)
    obtain ⟨h0, h1, h2, h3, h4, h5, h6⟩ := h c
    exact ⟨h0.trans ((Cert.KernelIdeal.Mx.final2 m c).trans (dwAll_eq (bx c) (bd c))),
      h1.trans ((Cert.KernelIdeal.Mx.final3 m c).trans (xCodes_eq (bx c))),
      h2.trans ((Cert.KernelIdeal.Mx.final4 m c).trans (xScales_eq (bx c))),
      h3.trans ((Cert.KernelIdeal.Mx.final5 m c).trans (dCodes_eq (bd c))),
      h4.trans ((Cert.KernelIdeal.Mx.final6 m c).trans (dScales_eq (bd c))), h5, h6⟩
  · refine (θ_run Cert.ReferenceIdeal.defs _ _).mono (fun r h c => ?_) (Cert.ReferenceIdeal.Mx.run_blocks m' g')
    obtain ⟨h0, h1, h2, h3, h4, h5, h6⟩ := h c
    exact ⟨h0.trans ((Cert.ReferenceIdeal.Mx.final2 m' c).trans (congrArg₂ (dwAll rHat) (hx c) (hd c))),
      h1.trans ((Cert.ReferenceIdeal.Mx.final3 m' c).trans (congrArg (xCodes rCode) (hx c))),
      h2.trans ((Cert.ReferenceIdeal.Mx.final4 m' c).trans (congrArg (xScales rScale) (hx c))),
      h3.trans ((Cert.ReferenceIdeal.Mx.final5 m' c).trans (congrArg (dCodes rCode) (hd c))),
      h4.trans ((Cert.ReferenceIdeal.Mx.final6 m' c).trans (congrArg (dScales rScale) (hd c))), h5, h6⟩

theorem claim : Cert.Claim :=
  ⟨Cert.Kernel.Gen.facts, Cert.KernelIdeal.Gen.facts, Cert.ReferenceIdeal.Gen.facts, Cert.Pre_finite.Gen.facts,
    fun m ρ _ => Cert.Kernel.Gen.frame m ρ, fun m ρ _ => Cert.KernelIdeal.Gen.frame m ρ,
    fun m ρ _ => Cert.KernelIdeal.Gen.frame m ρ, fun m ρ _ => Cert.ReferenceIdeal.Gen.frame m ρ,
    fun m ρ _ => Cert.ReferenceIdeal.Gen.frame m ρ, trivial, algebraic⟩

end Cert.Proof

end
